-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x1024 : Shape := ⟨2, ![8192, 1024]⟩
abbrev S2x1024x1024 : Shape := ⟨3, ![2, 1024, 1024]⟩
abbrev S1024x1024 : Shape := ⟨2, ![1024, 1024]⟩
abbrev S8 : Shape := ⟨1, ![8]⟩
abbrev S2 : Shape := ⟨1, ![2]⟩
abbrev S_ : Shape := ⟨0, ![]⟩
abbrev S1 : Shape := ⟨1, ![1]⟩
abbrev S1x1024x1024 : Shape := ⟨3, ![1, 1024, 1024]⟩

abbrev nBuf : Space → Nat
  | .hbm => 2
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .f32⟩
  | .local _ .vmem, ⟨0, _⟩ => ⟨S8192x1024, .bf16⟩
  | .local _ .vmem, ⟨1, _⟩ => ⟨S2x1024x1024, .f32⟩
  | .local _ .vmem, ⟨2, _⟩ => ⟨S2x1024x1024, .bf16⟩
  | .local _ .vmem, ⟨3, _⟩ => ⟨S1024x1024, .f32⟩
  | .local _ .vmem, ⟨4, _⟩ => ⟨S2x1024x1024, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 16
abbrev τ : Topo := Topo.v7x

variable {F : FTy → Type} [FloatOps F]

abbrev grid0 : Pipeline.Grid := .none

def k0_off1 (d0 : Dev nD) : Fin 3 → Nat :=
  let c0_i32 : BitVec 32 := 0#32
  let c0_i32_7 : BitVec 32 := 0#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32 : BitVec 32 := 1024#32
  let v10 : BitVec 32 := Scalar.muli v9 c1024_i32
  ![0, 0, v10.toNat]
def k0_off2 (d0 : Dev nD) : Fin 3 → Nat :=
  let c0_i32_9 : BitVec 32 := 0#32
  let c1024_i32_14 : BitVec 32 := 1024#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_8 : BitVec 32 := 1024#32
  let v17 : BitVec 32 := Scalar.muli v9 c1024_i32_8
  ![0, 1024, v17.toNat]
def k0_dev1 (d0 : Dev nD) : Nat :=
  let c0_i32_17 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_16 : BitVec 32 := 8#32
  let v25 : BitVec 32 := Scalar.muli v2 c8_i32_16
  let v26 : BitVec 32 := Scalar.addi c0_i32_17 v25
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_18 : BitVec 32 := 4#32
  let v27 : BitVec 32 := Scalar.muli v9 c4_i32_18
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v29 : BitVec 32 := Scalar.muli v8 c1_i32_19
  let v30 : BitVec 32 := Scalar.addi v28 v29
  v30.toNat
def k0_dev2 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_36 : BitVec 32 := 8#32
  let v44 : BitVec 32 := Scalar.muli v2 c8_i32_36
  let v45 : BitVec 32 := Scalar.addi c0_i32_37 v44
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_38 : BitVec 32 := 4#32
  let v46 : BitVec 32 := Scalar.muli v9 c4_i32_38
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v48 : BitVec 32 := Scalar.muli v8 c1_i32_39
  let v49 : BitVec 32 := Scalar.addi v47 v48
  v49.toNat
def k0_dev3 (d0 : Dev nD) : Nat :=
  let c0_i32_60 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_59 : BitVec 32 := 8#32
  let v70 : BitVec 32 := Scalar.muli v2 c8_i32_59
  let v71 : BitVec 32 := Scalar.addi c0_i32_60 v70
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_61 : BitVec 32 := 4#32
  let v72 : BitVec 32 := Scalar.muli v9 c4_i32_61
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v74 : BitVec 32 := Scalar.muli v8 c1_i32_62
  let v75 : BitVec 32 := Scalar.addi v73 v74
  v75.toNat
def k0_off3 (d0 : Dev nD) : Fin 3 → Nat :=
  let c0_i32_68 : BitVec 32 := 0#32
  let c0_i32_69 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_67 : BitVec 32 := 1024#32
  let v83 : BitVec 32 := Scalar.muli v5 c1024_i32_67
  ![0, 0, v83.toNat]
def k0_off4 (d0 : Dev nD) : Fin 3 → Nat :=
  let c0_i32_105 : BitVec 32 := 0#32
  let c2048_i32 : BitVec 32 := 2048#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_104 : BitVec 32 := 1024#32
  let v116 : BitVec 32 := Scalar.muli v9 c1024_i32_104
  ![0, 2048, v116.toNat]
def k0_dev4 (d0 : Dev nD) : Nat :=
  let c0_i32_127 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_126 : BitVec 32 := 8#32
  let v136 : BitVec 32 := Scalar.muli v2 c8_i32_126
  let v137 : BitVec 32 := Scalar.addi c0_i32_127 v136
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_128 : BitVec 32 := 4#32
  let v138 : BitVec 32 := Scalar.muli v9 c4_i32_128
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v140 : BitVec 32 := Scalar.muli v8 c1_i32_129
  let v141 : BitVec 32 := Scalar.addi v139 v140
  v141.toNat
def k0_off5 (d0 : Dev nD) : Fin 3 → Nat :=
  let c0_i32_135 : BitVec 32 := 0#32
  let c1024_i32_136 : BitVec 32 := 1024#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_134 : BitVec 32 := 1024#32
  let v149 : BitVec 32 := Scalar.muli v5 c1024_i32_134
  ![0, 1024, v149.toNat]
def k0_off6 (d0 : Dev nD) : Fin 3 → Nat :=
  let c0_i32_171 : BitVec 32 := 0#32
  let c3072_i32 : BitVec 32 := 3072#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_170 : BitVec 32 := 1024#32
  let v182 : BitVec 32 := Scalar.muli v9 c1024_i32_170
  ![0, 3072, v182.toNat]
def k0_dev5 (d0 : Dev nD) : Nat :=
  let c0_i32_192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_191 : BitVec 32 := 8#32
  let v202 : BitVec 32 := Scalar.muli v2 c8_i32_191
  let v203 : BitVec 32 := Scalar.addi c0_i32_192 v202
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_193 : BitVec 32 := 4#32
  let v204 : BitVec 32 := Scalar.muli v9 c4_i32_193
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v206 : BitVec 32 := Scalar.muli v8 c1_i32_194
  let v207 : BitVec 32 := Scalar.addi v205 v206
  v207.toNat
def k0_off7 (d0 : Dev nD) : Fin 3 → Nat :=
  let c0_i32_200 : BitVec 32 := 0#32
  let c2048_i32_201 : BitVec 32 := 2048#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_199 : BitVec 32 := 1024#32
  let v215 : BitVec 32 := Scalar.muli v5 c1024_i32_199
  ![0, 2048, v215.toNat]
def k0_off8 (d0 : Dev nD) : Fin 3 → Nat :=
  let c0_i32_242 : BitVec 32 := 0#32
  let c4096_i32 : BitVec 32 := 4096#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_241 : BitVec 32 := 1024#32
  let v253 : BitVec 32 := Scalar.muli v9 c1024_i32_241
  ![0, 4096, v253.toNat]
def k0_dev6 (d0 : Dev nD) : Nat :=
  let c0_i32_264 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_263 : BitVec 32 := 8#32
  let v273 : BitVec 32 := Scalar.muli v2 c8_i32_263
  let v274 : BitVec 32 := Scalar.addi c0_i32_264 v273
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_265 : BitVec 32 := 4#32
  let v275 : BitVec 32 := Scalar.muli v9 c4_i32_265
  let v276 : BitVec 32 := Scalar.addi v274 v275
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_266 : BitVec 32 := 1#32
  let v277 : BitVec 32 := Scalar.muli v8 c1_i32_266
  let v278 : BitVec 32 := Scalar.addi v276 v277
  v278.toNat
def k0_off9 (d0 : Dev nD) : Fin 3 → Nat :=
  let c0_i32_272 : BitVec 32 := 0#32
  let c3072_i32_273 : BitVec 32 := 3072#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_271 : BitVec 32 := 1024#32
  let v286 : BitVec 32 := Scalar.muli v5 c1024_i32_271
  ![0, 3072, v286.toNat]
def k0_off10 (d0 : Dev nD) : Fin 3 → Nat :=
  let c0_i32_314 : BitVec 32 := 0#32
  let c5120_i32 : BitVec 32 := 5120#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_313 : BitVec 32 := 1024#32
  let v324 : BitVec 32 := Scalar.muli v9 c1024_i32_313
  ![0, 5120, v324.toNat]
def k0_dev7 (d0 : Dev nD) : Nat :=
  let c0_i32_335 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_334 : BitVec 32 := 8#32
  let v344 : BitVec 32 := Scalar.muli v2 c8_i32_334
  let v345 : BitVec 32 := Scalar.addi c0_i32_335 v344
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_336 : BitVec 32 := 4#32
  let v346 : BitVec 32 := Scalar.muli v9 c4_i32_336
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_337 : BitVec 32 := 1#32
  let v348 : BitVec 32 := Scalar.muli v8 c1_i32_337
  let v349 : BitVec 32 := Scalar.addi v347 v348
  v349.toNat
def k0_off11 (d0 : Dev nD) : Fin 3 → Nat :=
  let c0_i32_343 : BitVec 32 := 0#32
  let c4096_i32_344 : BitVec 32 := 4096#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_342 : BitVec 32 := 1024#32
  let v357 : BitVec 32 := Scalar.muli v5 c1024_i32_342
  ![0, 4096, v357.toNat]
def k0_off12 (d0 : Dev nD) : Fin 3 → Nat :=
  let c0_i32_385 : BitVec 32 := 0#32
  let c6144_i32 : BitVec 32 := 6144#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_384 : BitVec 32 := 1024#32
  let v395 : BitVec 32 := Scalar.muli v9 c1024_i32_384
  ![0, 6144, v395.toNat]
def k0_dev8 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v415 : BitVec 32 := Scalar.muli v2 c8_i32_405
  let v416 : BitVec 32 := Scalar.addi c0_i32_406 v415
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_407 : BitVec 32 := 4#32
  let v417 : BitVec 32 := Scalar.muli v9 c4_i32_407
  let v418 : BitVec 32 := Scalar.addi v416 v417
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v419 : BitVec 32 := Scalar.muli v8 c1_i32_408
  let v420 : BitVec 32 := Scalar.addi v418 v419
  v420.toNat
def k0_off13 (d0 : Dev nD) : Fin 3 → Nat :=
  let c0_i32_414 : BitVec 32 := 0#32
  let c5120_i32_415 : BitVec 32 := 5120#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_413 : BitVec 32 := 1024#32
  let v428 : BitVec 32 := Scalar.muli v5 c1024_i32_413
  ![0, 5120, v428.toNat]
def k0_off14 (d0 : Dev nD) : Fin 3 → Nat :=
  let c0_i32_456 : BitVec 32 := 0#32
  let c7168_i32 : BitVec 32 := 7168#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_455 : BitVec 32 := 1024#32
  let v466 : BitVec 32 := Scalar.muli v9 c1024_i32_455
  ![0, 7168, v466.toNat]
def k0_dev9 (d0 : Dev nD) : Nat :=
  let c0_i32_477 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_476 : BitVec 32 := 8#32
  let v486 : BitVec 32 := Scalar.muli v2 c8_i32_476
  let v487 : BitVec 32 := Scalar.addi c0_i32_477 v486
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_478 : BitVec 32 := 4#32
  let v488 : BitVec 32 := Scalar.muli v9 c4_i32_478
  let v489 : BitVec 32 := Scalar.addi v487 v488
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_479 : BitVec 32 := 1#32
  let v490 : BitVec 32 := Scalar.muli v8 c1_i32_479
  let v491 : BitVec 32 := Scalar.addi v489 v490
  v491.toNat
def k0_off15 (d0 : Dev nD) : Fin 3 → Nat :=
  let c0_i32_485 : BitVec 32 := 0#32
  let c6144_i32_486 : BitVec 32 := 6144#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_484 : BitVec 32 := 1024#32
  let v499 : BitVec 32 := Scalar.muli v5 c1024_i32_484
  ![0, 6144, v499.toNat]
def k0_off16 (d0 : Dev nD) : Fin 3 → Nat :=
  let c0_i32_519 : BitVec 32 := 0#32
  let c7168_i32_520 : BitVec 32 := 7168#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_518 : BitVec 32 := 1024#32
  let v532 : BitVec 32 := Scalar.muli v5 c1024_i32_518
  ![0, 7168, v532.toNat]
-- ==== ReferenceIdeal.lean ====
abbrev S2x8192x2048 : Shape := ⟨3, ![2, 8192, 2048]⟩
abbrev S_ : Shape := ⟨0, ![]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S_, .f32⟩
  | .hbm, ⟨2, _⟩ => ⟨S8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Proto.lean ====
/-
The protocol of the exchange kernel, written down before any body is run.

Sixteen devices, mesh axes x, y, z of extents 2, 2, 4.  Device `d` exchanges with its PEER along y,
`peer d`, in eight row chunks of 1024 rows.  Cells of device `d`:

* the runtime's barrier semaphore: one unit, signalled by the peer, which hands over its whole landing buffer;
* send semaphore `i` (0..7): the credit of one bf16 chunk, paid by `d`'s own transfer of chunk `i`; it hands
  back the slot of the send staging buffer the chunk was read from;
* receive semaphore `i` (0..7): the same credit, paid by the peer's transfer of chunk `i`; it hands over rows
  `1024 i ..` of `d`'s landing buffer, holding the peer's chunk rounded to bf16 (`sent`);
* two staging semaphores, the semaphore of the own-half copy and two result semaphores: local copies only,
  each alternately at zero and with one copy in flight.

A device owes its peer one barrier unit and the eight receive credits; waiting for chunk `i` it owes only the
credits of chunks after `i`, which the levels order.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Memref
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's cells, the exchange's cells, the counters of local copies -/

/-- The exchange's copy of the rounds algebra, one unnamed duty per cell. -/
abbrev UX : Type := URounds (GSem nD τ sig) Unit
/-- The whole user algebra. -/
abbrev UU : Type := UR sig nD τ × (UX × Counters)

local notation "𝕄" => MT nD τ sig Unit (Elt F) ℕ UU ℕ

/-- Where the pipeline library's component lives. -/
abbrev EP : Emb (UR sig nD τ) (MT nD τ sig Unit (Elt F) ℕ UU ℕ) := embL
/-- Where the exchange's component lives. -/
abbrev EX : Emb UX (MT nD τ sig Unit (Elt F) ℕ UU ℕ) := (Emb.inl : Emb UX (UX × Counters)).trans embR
/-- Where the local copies' counters live. -/
abbrev EC : UEmb Counters (MT nD τ sig Unit (Elt F) ℕ UU ℕ) := countersEmb

omit [FloatOps F] in
instance EX_landsIn : (EX (F := F)).LandsIn (upEmb : UEmb _ 𝕄) := by unfold EX; infer_instance

variable (m : (ℓ : Loc nD τ sig) → Buf (Elt F) ℓ) (ρ : Dev nD → PrngReg)

/-! ## The peer -/

set_option backward.proofsInPublic true in
/-- The device with the same x and z and the other y. -/
def peer (d : Dev nD) : Dev nD := ⟨(8 * (d.val / 8) + (d.val % 4) + 4) - 4 * ((d.val / 4) % 2), by revert d; decide⟩

/-- The peer's peer is the device itself. -/
theorem peer_peer (d : Dev nD) : peer (peer d) = d := by revert d; decide

/-- Taking the peer, as a permutation of the devices. -/
def swap : Dev nD ≃ Dev nD := ⟨peer, peer, peer_peer, peer_peer⟩

/-! ## The buffers' pieces -/

abbrev xW : Memref sig .tc .hbm S1x8192x2048 .f32 := Memref.whole main_arg0
abbrev outW : Memref sig .tc .hbm S8192x1024 .f32 := Memref.whole main_v1
abbrev commW : Memref sig .tc .vmem S8192x1024 .bf16 := Memref.whole cc0_scratch0
abbrev sfW : Memref sig .tc .vmem S2x1024x1024 .f32 := Memref.whole cc0_scratch1
abbrev sbW : Memref sig .tc .vmem S2x1024x1024 .bf16 := Memref.whole cc0_scratch2
abbrev aW : Memref sig .tc .vmem S1024x1024 .f32 := Memref.whole cc0_scratch3
abbrev oW : Memref sig .tc .vmem S2x1024x1024 .f32 := Memref.whole cc0_scratch4

theorem slot_inb (b : Fin 2) : ∀ a, (![b.val, 0, 0] : Fin 3 → ℕ) a + S1x1024x1024.size a ≤ S2x1024x1024.size a := by
  revert b; decide
theorem row_inb (i : Fin 8) : ∀ a, (![1024 * i.val, 0] : Fin 2 → ℕ) a + S1024x1024.size a ≤ S8192x1024.size a := by
  revert i; decide

/-- Slot `b` of a two-slot buffer. -/
abbrev slotR (b : Fin 2) : Rect S2x1024x1024 := Rect.unit (s := S2x1024x1024) ![b.val, 0, 0] S1x1024x1024.size (slot_inb b)
/-- Row chunk `i` of an 8192 by 1024 buffer. -/
abbrev rowR (i : Fin 8) : Rect S8192x1024 := Rect.unit (s := S8192x1024) ![1024 * i.val, 0] S1024x1024.size (row_inb i)

/-- Slot `b` of the f32 staging buffer, of the bf16 staging buffer, of the result staging buffer. -/
abbrev sfS (b : Fin 2) : Memref sig .tc .vmem S1024x1024 .f32 :=
  (sfW.slice (slotR b) (fun _ => rfl)).squeeze S1024x1024 squeezes_S1x1024x1024_S1024x1024
abbrev sbS (b : Fin 2) : Memref sig .tc .vmem S1024x1024 .bf16 :=
  (sbW.slice (slotR b) (fun _ => rfl)).squeeze S1024x1024 squeezes_S1x1024x1024_S1024x1024
abbrev oS (b : Fin 2) : Memref sig .tc .vmem S1024x1024 .f32 :=
  (oW.slice (slotR b) (fun _ => rfl)).squeeze S1024x1024 squeezes_S1x1024x1024_S1024x1024
/-- Row chunk `i` of the landing buffer and of the result. -/
abbrev commP (i : Fin 8) : Memref sig .tc .vmem S1024x1024 .bf16 := commW.slice (rowR i) (fun _ => rfl)
abbrev outP (i : Fin 8) : Memref sig .tc .hbm S1024x1024 .f32 := outW.slice (rowR i) (fun _ => rfl)

/-- The piece of the operand at offsets `off`, one leading row, 1024 by 1024. -/
abbrev xPiece (off : Fin 3 → ℕ) (h : ∀ a, off a + S1x1024x1024.size a ≤ S1x8192x2048.size a) :
    Memref sig .tc .hbm S1024x1024 .f32 :=
  (xW.slice (Rect.unit (s := S1x8192x2048) off S1x1024x1024.size h) (fun _ => rfl)).squeeze S1024x1024
    squeezes_S1x1024x1024_S1024x1024

/-- Where chunk `i` of the half the peer keeps starts, on device `d`; -/
def offP (d : Dev nD) (i : Fin 8) : Fin 3 → ℕ := ![0, 1024 * i.val, 1024 - 1024 * ((d.val / 4) % 2)]
/-- and where chunk `i` of the half `d` keeps starts. -/
def offA (d : Dev nD) (i : Fin 8) : Fin 3 → ℕ := ![0, 1024 * i.val, 1024 * ((d.val / 4) % 2)]

theorem offP_inb : ∀ (d : Dev nD) (i : Fin 8), ∀ a, offP d i a + S1x1024x1024.size a ≤ S1x8192x2048.size a := by decide +kernel
theorem offA_inb : ∀ (d : Dev nD) (i : Fin 8), ∀ a, offA d i a + S1x1024x1024.size a ≤ S1x8192x2048.size a := by decide +kernel

/-! ## The cells -/

/-- The runtime's barrier semaphore. -/
abbrev barS : Sem sig := (SemArray.scalar (sig.barrier 0 rfl) : Sems sig S_).sem
set_option backward.proofsInPublic true in
/-- The DMA semaphores, as the launch numbers them: eight send, eight receive, two staging, one own-half, two result. -/
abbrev sendQ (i : Fin 8) : DmaSem sig := ⟨i.val, Nat.lt_of_lt_of_le i.isLt (by decide)⟩
set_option backward.proofsInPublic true in
abbrev recvQ (i : Fin 8) : DmaSem sig := ⟨8 + i.val, Nat.lt_of_lt_of_le (Nat.add_lt_add_left i.isLt 8) (by decide)⟩
set_option backward.proofsInPublic true in
abbrev stQ (b : Fin 2) : DmaSem sig := ⟨16 + b.val, Nat.lt_of_lt_of_le (Nat.add_lt_add_left b.isLt 16) (by decide)⟩
set_option backward.proofsInPublic true in
abbrev aQ : DmaSem sig := ⟨18, by decide⟩
set_option backward.proofsInPublic true in
abbrev outQ (b : Fin 2) : DmaSem sig := ⟨19 + b.val, Nat.lt_of_lt_of_le (Nat.add_lt_add_left b.isLt 19) (by decide)⟩

abbrev barCell (d : Dev nD) : GSem nD τ sig := ((d : Thread nD τ), .reg barS)
abbrev sendCell (d : Dev nD) (i : Fin 8) : GSem nD τ sig := ((d : Thread nD τ), .dma (sendQ i))
abbrev recvCell (d : Dev nD) (i : Fin 8) : GSem nD τ sig := ((d : Thread nD τ), .dma (recvQ i))

/-- The credit of one bf16 chunk, and of one f32 chunk. -/
abbrev NB : ℕ := (commP 0).view.dmaCredit
abbrev NF : ℕ := (aW).view.dmaCredit
theorem NB_pos : 0 < NB := View.dmaCredit_pos _ (by decide)
theorem NF_pos : 0 < NF := View.dmaCredit_pos _ (by decide)

/-! ## Contents -/

/-- The operand's block on device `d`, at launch. -/
abbrev x0 (d : Dev nD) : Buf (Elt F) ((d : Thread nD τ).loc main_arg0) := m ((d : Thread nD τ).loc main_arg0)

/-- Chunk `i` of the half of `d`'s block that the peer keeps. -/
def give (d : Dev nD) (i : Fin 8) : Vec F S1024x1024 .f32 := (xPiece (offP d i) (offP_inb d i)).view.read (Elt F) (x0 m d)
/-- Chunk `i` of the half of `d`'s block that `d` keeps. -/
def keep (d : Dev nD) (i : Fin 8) : Vec F S1024x1024 .f32 := (xPiece (offA d i) (offA_inb d i)).view.read (Elt F) (x0 m d)
/-- What `d` sends as chunk `i`: the peer's half rounded to bf16. -/
def sent (d : Dev nD) (i : Fin 8) : Vec F S1024x1024 .bf16 := truncf .bf16 (give m d i) bitsLt_bf16_f32
/-- Chunk `i` of the result on `d`: its own half plus what its peer sent. -/
def res (d : Dev nD) (i : Fin 8) : Vec F S1024x1024 .f32 := addf (keep m d i) (extf .f32 (sent m (peer d) i) bitsLt_bf16_f32)

/-- A memref's elements at some contents. -/
def Held {sp : Space} {sh : Shape} {e : EltTy} (d : Dev nD) (M : Memref sig .tc sp sh e) : sProp 𝕄 :=
  iprop(∃ Y : sh.Idx → Elt F e, owns (d : Thread nD τ) M fullShare Y)

omit [FloatOps F] in
instance Held_storable {sp : Space} {sh : Shape} {e : EltTy} (d : Dev nD) (M : Memref sig .tc sp sh e) :
    BI.Storable (upEmb : UEmb _ 𝕄) (Held (F := F) d M) := by unfold Held; infer_instance

/-! ## The schedule -/

/-- The slot a send semaphore's chunk is staged in. -/
def par (n : ℕ) : Fin 2 := ⟨n % 2, Nat.mod_lt _ (by decide)⟩

/-- What the peer's barrier signal hands device `d`: the peer's landing buffer, chunk by chunk. -/
def barPay (d : Dev nD) : sProp 𝕄 := bigSep Finset.univ fun i : Fin 8 => Held (F := F) (peer d) (commP i)
/-- What the landing of chunk `i` on device `d` hands it. -/
def recvPay (d : Dev nD) (i : Fin 8) : sProp 𝕄 := owns (d : Thread nD τ) (commP i) fullShare (sent m (peer d) i)
/-- What `d`'s own transfer hands back when it has been read: its staging slot. -/
def sendPay (d : Dev nD) (b : Fin 2) : sProp 𝕄 := Held (F := F) d (sbS b)

/-- The cells the exchange runs on. -/
abbrev Mine (g : GSem nD τ sig) : Prop := g.1.2 = .tc ∧ match g.2 with | .reg s => s = barS | .dma q => q.val < 16

instance (g : GSem nD τ sig) : Decidable (Mine g) := by
  rcases g with ⟨⟨d, p⟩, s | q⟩ <;> unfold Mine <;> infer_instance

/-- The payload of a cell's one duty. -/
def pay (d : Dev nD) (sm : SemLoc sig) : sProp 𝕄 :=
  match sm with
  | .reg _ => barPay (F := F) d
  | .dma q => if q.val < 8 then sendPay (F := F) d (par q.val) else
      if h : q.val - 8 < 8 then recvPay m d ⟨q.val - 8, h⟩ else iprop(emp)

/-- One round with one duty at each cell of the exchange. -/
def sched : Rounds.Schedule (GSem nD τ sig) Unit 𝕄 where
  duties g r := if r = 0 ∧ Mine g then {()} else ∅
  unitless _ := False
  amount g _ _ := match g.2 with | .reg _ => 1 | .dma _ => NB
  payload g _ _ := pay m g.1.1 g.2
  amount_pos g _ _ _ := by
    rcases g with ⟨_, _ | _⟩
    · exact Nat.one_pos
    · exact NB_pos

instance sched_payload_storable (g : GSem nD τ sig) (r : ℕ) (u : Unit) :
    BI.Storable (upEmb : UEmb _ 𝕄) ((sched (F := F) m).payload g r u) := by
  show BI.Storable upEmb (pay m g.1.1 g.2)
  rcases g with ⟨d, _ | q⟩
  · show BI.Storable upEmb (barPay (F := F) d.1); unfold barPay; infer_instance
  · show BI.Storable upEmb (if q.val < 8 then sendPay (F := F) d.1 (par q.val) else
      if h : q.val - 8 < 8 then recvPay m d.1 ⟨q.val - 8, h⟩ else iprop(emp))
    unfold sendPay recvPay
    (repeat' split) <;> infer_instance

section Sched
variable (d : Dev nD) (i : Fin 8)

theorem mine_bar : Mine (barCell d) := ⟨rfl, rfl⟩
theorem mine_send : Mine (sendCell d i) := ⟨rfl, Nat.lt_of_lt_of_le i.isLt (by decide)⟩
theorem mine_recv : Mine (recvCell d i) := ⟨rfl, by show 8 + i.val < 16; omega⟩

/-- A cell of the exchange has its one duty in round 0, -/
theorem duties_mine {g : GSem nD τ sig} (h : Mine g) : (sched (F := F) m).duties g 0 = {()} := if_pos ⟨rfl, h⟩
/-- and no cell has one later. -/
theorem duties_later (g : GSem nD τ sig) : ∀ r, 1 ≤ r → (sched (F := F) m).duties g r = ∅ :=
  fun r hr => if_neg fun h => by omega

theorem mem_duties {g : GSem nD τ sig} (h : Mine g) : () ∈ (sched (F := F) m).duties g 0 := by
  rw [duties_mine m h]; exact Finset.mem_singleton_self _

/-- What a wait on a cell of the exchange expects: the duty's amount. -/
theorem expect_mine {g : GSem nD τ sig} (h : Mine g) : (sched (F := F) m).expect g 0 = (sched (F := F) m).amount g 0 () := by
  unfold Schedule.expect Schedule.amountOf; rw [duties_mine m h, Finset.sum_singleton]

/-- What a wait on a cell of the exchange is handed: the duty's payload. -/
theorem rest_mine {g : GSem nD τ sig} (h : Mine g) :
    bigSep ((sched (F := F) m).duties g 0 \ ∅) (fun u => (sched (F := F) m).payload g 0 u) = pay m g.1.1 g.2 := by
  rw [Finset.sdiff_empty, duties_mine m h, bigSep_singleton]; rfl

theorem amount_bar : (sched (F := F) m).amount (barCell d) 0 () = 1 := rfl
theorem amount_dma (q : DmaSem sig) : (sched (F := F) m).amount ((d : Thread nD τ), .dma q) 0 () = NB := rfl
theorem pay_bar : pay m d (.reg barS) = barPay (F := F) d := rfl
theorem pay_send : pay m d (.dma (sendQ i)) = sendPay (F := F) d (par i.val) := if_pos i.isLt
theorem pay_recv : pay m d (.dma (recvQ i)) = recvPay m d i := by
  have h8 : ¬ (8 + i.val < 8) := by omega
  have h : 8 + i.val - 8 < 8 := by omega
  show (if 8 + i.val < 8 then sendPay (F := F) d (par (8 + i.val)) else
      if h : 8 + i.val - 8 < 8 then recvPay m d ⟨8 + i.val - 8, h⟩ else iprop(emp)) = _
  rw [if_neg h8, dif_pos h]
  congr 1
  exact Fin.ext (Nat.add_sub_cancel_left 8 i.val)

end Sched

/-! ## What each device owes; the levels -/

/-- The receive credits `d` owes its peer once chunks below `n` are sent. -/
def debt (d : Dev nD) (n : ℕ) : CellTallies nD τ sig Unit :=
  ∑ i ∈ Finset.univ.filter (fun i : Fin 8 => n ≤ i.val), tallyAt (recvCell (peer d) i) () NB

/-- Sending chunk `i` pays its credit. -/
theorem debt_step (d : Dev nD) (i : Fin 8) : debt d i.val = debt d (i.val + 1) + tallyAt (recvCell (peer d) i) () NB := by
  unfold debt
  have h : Finset.univ.filter (fun j : Fin 8 => i.val ≤ j.val) = insert i (Finset.univ.filter (fun j : Fin 8 => i.val + 1 ≤ j.val)) := by
    ext j
    simp only [Finset.mem_filter, Finset.mem_univ, true_and, Finset.mem_insert, Fin.ext_iff]
    omega
  rw [h, Finset.sum_insert (by simp), add_comm]

theorem debt_eight (d : Dev nD) : debt d 8 = 0 := by
  unfold debt
  rw [Finset.filter_false_of_mem (fun j _ => by have := j.isLt; omega), Finset.sum_empty]

/-- What `d` owes at launch: all eight credits and its peer's barrier unit. -/
def O₀ (d : Dev nD) : CellTallies nD τ sig Unit := debt d 0 + tallyAt (barCell (peer d)) () 1

def L (g : GSem nD τ sig) : Finset Unit := if g.1.2 = .tc then {()} else ∅
/-- Barrier cells at 1, the receive cell of chunk `i` at `2 + i`, everything else at 0. -/
def lv (g : GSem nD τ sig) (_ : Unit) : ℕ :=
  match g.2 with
  | .reg _ => 1
  | .dma q => if 8 ≤ q.val ∧ q.val < 16 then q.val - 6 else 0

theorem L_of_ne (g : GSem nD τ sig) (h : g.1.2 ≠ .tc) : L g = ∅ := if_neg h
theorem L_tc (d : Dev nD) (sm : SemLoc sig) : L ((d : Thread nD τ), sm) = {()} := if_pos rfl
theorem lv_recv (d : Dev nD) (i : Fin 8) (u : Unit) : lv (recvCell d i) u = 2 + i.val := by
  have h : 8 ≤ 8 + i.val ∧ 8 + i.val < 16 := by omega
  show (if 8 ≤ 8 + i.val ∧ 8 + i.val < 16 then 8 + i.val - 6 else 0) = _
  rw [if_pos h]; omega

/-- What is still owed after chunks below `n` are sent is at receive cells of chunks from `n` on. -/
theorem debt_pos {d : Dev nD} {n : ℕ} {g : GSem nD τ sig} {u : Unit} (h : 0 < debt d n g u) :
    ∃ i : Fin 8, n ≤ i.val ∧ g = recvCell (peer d) i := by
  by_contra hn
  have hz : debt d n g u = 0 := by
    unfold debt
    rw [Finset.sum_apply, Finsupp.finset_sum_apply]
    refine Finset.sum_eq_zero fun i hi => ?_
    rw [tallyAt_apply, if_neg]
    rintro ⟨h1, -⟩
    exact hn ⟨i, (Finset.mem_filter.mp hi).2, h1⟩
  omega

/-- The levels, as every device knows them. -/
@[irreducible] def Levels : sProp 𝕄 := levAts L lv

omit [FloatOps F] in
instance Levels_persistent : BI.Persistent (Levels (F := F)) := by unfold Levels; infer_instance

omit [FloatOps F] in
/-- A device may wait on a cell below every receive level it still owes. -/
theorem mayWait (d : Dev nD) (sm : SemLoc sig) (n : ℕ) (h : lv ((d : Thread nD τ), sm) () < 2 + n) :
    Levels (F := F) ⊢ MayWait (d : Thread nD τ) sm () (debt d n) := by
  unfold Levels
  exact MayOwe.of_cut (L := L) (lev := lv) (lv ((d : Thread nD τ), sm) ())
    (fun p hp => by rw [Finset.mem_singleton.mp hp, L_tc]; exact Finset.mem_singleton_self _)
    (fun g u hg => by obtain ⟨i, -, rfl⟩ := debt_pos hg; rw [L_tc]; exact Finset.mem_singleton_self _)
    (fun p hp => by rw [Finset.mem_singleton.mp hp])
    (fun g u hg => by obtain ⟨i, hi, rfl⟩ := debt_pos hg; rw [lv_recv]; omega)

end Cert.KProof
-- ==== Proof.Steps.lean ====
/-
The kernel's steps: one rule per kind of operation, then one rule per stretch of the kernel's loop body.

Each stretch is stated once for every chunk and proved from the rules of its operations; the body applies it
at each chunk.
-/
module

public import proofs.«01_k».proof.Proof.Proto
public import Idealize.ShloMosaic.Lib.Pipeline.Value

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program run by device `d`. -/
abbrev WP (d : Dev nD) {α : Type} (p : Prog (TpuEff nD τ sig (Elt F) Λ₀ .tc) α) (Q : α → sProp 𝕄) : sProp 𝕄 :=
  wp frame (wpE (defs₀ (F := F)) 𝒱₀ (d : Thread nD τ) none) Set.univ p Q

/-- Device `d` owes `O`, whatever it has waited for. -/
def Ow (d : Dev nD) (O : CellTallies nD τ sig Unit) : sProp 𝕄 := iprop(∃ W, owes (d : Thread nD τ) O W)

/-! ## The names of the cells' invariants -/

/-- A device's cells of the exchange: eight send, eight receive, the barrier. -/
def csem (k : Fin 17) : SemLoc sig := if h : k.val < 16 then .dma ⟨k.val, Nat.lt_of_lt_of_le h (by decide)⟩ else .reg barS
abbrev kcell (dk : Dev nD × Fin 17) : GSem nD τ sig := ((dk.1 : Thread nD τ), csem dk.2)
abbrev kS (i : Fin 8) : Fin 17 := ⟨i.val, by omega⟩
abbrev kR (i : Fin 8) : Fin 17 := ⟨8 + i.val, by omega⟩
abbrev kB : Fin 17 := ⟨16, by omega⟩

theorem csem_send (i : Fin 8) : csem (kS i) = .dma (sendQ i) := dif_pos (show i.val < 16 by omega)
theorem csem_recv (i : Fin 8) : csem (kR i) = .dma (recvQ i) := dif_pos (show 8 + i.val < 16 by omega)
theorem csem_bar : csem kB = .reg barS := dif_neg (by decide)
theorem kcell_send (d : Dev nD) (i : Fin 8) : kcell (d, kS i) = sendCell d i := congrArg (Prod.mk _) (csem_send i)
theorem kcell_recv (d : Dev nD) (i : Fin 8) : kcell (d, kR i) = recvCell d i := congrArg (Prod.mk _) (csem_recv i)
theorem kcell_bar (d : Dev nD) : kcell (d, kB) = barCell d := congrArg (Prod.mk _) csem_bar

/-- What every device may use as often as it likes: all cells' invariants, that every cell is at round 0, the levels. -/
@[irreducible] def env (K : Dev nD × Fin 17 → ℕ) : sProp 𝕄 :=
  iprop((bigSep Finset.univ fun dk : Dev nD × Fin 17 => cellInv EX (sched m) (K dk) (kcell dk))
    ∗ (bigSep Finset.univ fun dk : Dev nD × Fin 17 => reached EX (kcell dk) 0) ∗ Levels (F := F))

instance env_persistent (K : Dev nD × Fin 17 → ℕ) : BI.Persistent (env m K) := by unfold env; infer_instance

section Env
variable (K : Dev nD × Fin 17 → ℕ)

theorem inv_at (dk : Dev nD × Fin 17) :
    (bigSep Finset.univ fun dk : Dev nD × Fin 17 => (cellInv EX (sched m) (K dk) (kcell dk) : sProp 𝕄))
      ⊢ cellInv EX (sched m) (K dk) (kcell dk) := bigSep_elim (Finset.mem_univ dk)
omit [FloatOps F] in
theorem reached_at (dk : Dev nD × Fin 17) :
    (bigSep Finset.univ fun dk : Dev nD × Fin 17 => (reached EX (kcell dk) 0 : sProp 𝕄)) ⊢ reached EX (kcell dk) 0 :=
  bigSep_elim (Finset.mem_univ dk)
theorem env_lev : env m K ⊢ Levels (F := F) := by
  unfold env; iintro ⟨-, -, H⟩; iexact H
theorem env_inv (dk : Dev nD × Fin 17) {g : GSem nD τ sig} (h : kcell dk = g) : env m K ⊢ cellInv EX (sched m) (K dk) g := by
  subst h
  unfold env; iintro ⟨H, -, -⟩
  iapply (inv_at m K dk); iexact H
theorem env_reached (dk : Dev nD × Fin 17) {g : GSem nD τ sig} (h : kcell dk = g) : env m K ⊢ reached EX g 0 := by
  subst h
  unfold env; iintro ⟨-, H, -⟩
  iapply (reached_at (F := F) dk); iexact H

end Env

/-! ## One rule per kind of operation -/

section Ops
variable (d : Dev nD) {α : Type} {Q : α → sProp (MT nD τ sig Unit (Elt F) ℕ UU ℕ)}

omit [FloatOps F] in
/-- What a flight delivers may be told together with anything held beside it. -/
theorem flight_frame {q : DmaSem sig} {N : ℕ} {D C : sProp 𝕄} :
    iprop(Flight EC (d : Thread nD τ) (.dma q) () N D ∗ C) ⊢ Flight EC (d : Thread nD τ) (.dma q) () N iprop(D ∗ C) := by
  unfold Flight
  iintro ⟨⟨⟨%R, HR, %hcap, %hpeek⟩, Hcred⟩, HC⟩
  isplitr [Hcred]
  · iexists iprop(R ∗ C)
    isplitl [HR HC]
    · isplitl [HR] <;> iassumption
    isplit
    · ipureintro
      intro Kt
      iintro ⟨⟨HR, HC⟩, Hk⟩
      iapply (hcap Kt)
      isplitl [HR]; · iexact HR
      iintro ⟨Hv, HD⟩
      iapply Hk
      isplitl [Hv]; · iexact Hv
      isplitl [HD] <;> iassumption
    · ipureintro
      intro Kt
      iintro ⟨⟨HR, HC⟩, Hk⟩
      iapply (hpeek Kt)
      isplitl [HR]; · iexact HR
      iintro HR
      iapply Hk
      isplitl [HR] <;> iassumption
  · iexact Hcred

/-- Starting a local copy: the source (among elements `S` of its buffer) is lent, the destination handed in at any
    contents; the flight delivers the destination at what the source reads, and the source. -/
theorem issue {sp sp' : Space} {s : Shape} {e : EltTy} {src : Memref sig .tc sp s e} {dst : Memref sig .tc sp' s e} {q : DmaSem sig}
    {hsrc : src.view.WordExact} {hdst : dst.view.WordExact} {hsem : DmaTarget.Typed (nD := nD) (τ := τ) (p := .tc) sp (.dma q) (.here dst)}
    {k : PUnit → Prog (TpuEff nD τ sig (Elt F) Λ₀ .tc) α} {S : Finset (Idx (src.view.loc (d : Thread nD τ)))}
    {sh : PosShare TreeShare} {f : Buf (Elt F) (src.view.loc (d : Thread nD τ))}
    (hS : src.view.set ⊆ S) (N : ℕ) (hN : dst.view.dmaCredit = N) (hN0 : 0 < N) :
    (src.view.loc (d : Thread nD τ) ↦[S]{sh} f) ⊢ iprop(Held d dst -∗ semVal ((d : Thread nD τ), .dma q) 0
      -∗ (Flight EC (d : Thread nD τ) (.dma q) () N
            iprop(owns (d : Thread nD τ) dst fullShare (src.view.read (Elt F) f) ∗ (src.view.loc (d : Thread nD τ) ↦[S]{sh} f))
          -∗ WP d (k ⟨⟩) Q)
      -∗ WP d (.op (.enqueueDma src (.here dst) (.dma q) hsrc hdst hsem) k) Q) := by
  unfold Held owns
  iintro Hs ⟨%Y, %g, %hg, Hd⟩ Hv Hk
  ihave H := (pointsTo_split_subset hS).1 $$ Hs
  icases H with ⟨Hs, Hc⟩
  iapply (Transfers.wp_dmaLocal EC 𝒱₀ (d : Thread nD τ) none (dst := dst) (sm := .dma q) () N hN hN0 (Finset.Subset.refl _)) $$ [Hs Hd Hv]
  · isplitl [Hs]; · iexact Hs
    isplitl [Hd] <;> iassumption
  iintro Hf
  iapply Hk
  iapply (Transfers.Flight_mono EC (d : Thread nD τ) (D := iprop(((dst.view.loc (d : Thread nD τ) ↦[dst.view.set]{fullShare}
      ((dst.view.write (Elt F) g (ReadAs.same.apply (src.view.read (Elt F) f)) Finset.univ : BufTy.Contents (Elt F) dst.view.ty)))
      ∗ (src.view.loc (d : Thread nD τ) ↦[src.view.set]{sh} f)) ∗ (src.view.loc (d : Thread nD τ) ↦[S \ src.view.set]{sh} f))) (by
    iintro ⟨⟨Hd, Hs⟩, Hc⟩
    isplitl [Hd]
    · iexists (dst.view.write (Elt F) g (ReadAs.same.apply (src.view.read (Elt F) f)) Finset.univ : BufTy.Contents (Elt F) dst.view.ty); isplitr
      · ipureintro; exact View.read_write_univ (v := dst.view) g _
      · iexact Hd
    · iapply (pointsTo_split_subset hS).2
      isplitl [Hs] <;> iassumption))
  iapply (flight_frame d)
  isplitl [Hf] <;> iassumption

/-- Waiting for a local copy: what its flight delivers, and the semaphore at zero again. -/
theorem collect {sp sp' : Space} {s s' : Shape} {e e' : EltTy} {κ' : Kind} {q : DmaSem sig}
    {srcw : Memref sig .tc sp' s' e'} {dstw : Memref sig κ' sp s e} {hsrc : srcw.view.WordExact} {hdst : dstw.view.WordExact}
    {k : PUnit → Prog (TpuEff nD τ sig (Elt F) Λ₀ .tc) α} (N : ℕ) (hN : dstw.view.dmaCredit = N) {D : sProp 𝕄} (n : ℕ)
    (hq : lv ((d : Thread nD τ), .dma q) () = 0) :
    Levels (F := F) ⊢ iprop(Flight EC (d : Thread nD τ) (.dma q) () N D -∗ Ow d (debt d n)
      -∗ (iprop(D ∗ semVal ((d : Thread nD τ), .dma q) 0 ∗ Ow d (debt d n)) -∗ WP d (k ⟨⟩) Q)
      -∗ WP d (.op (.waitDma2 q srcw dstw hsrc hdst) k) Q) := by
  unfold Ow
  iintro Hlev Hf ⟨%W, HO⟩ Hk
  iapply (Transfers.wp_waitLocalO EC 𝒱₀ (d : Thread nD τ) none () hN (W := W)) $$ [Hlev Hf HO]
  · isplitl [Hf]; · iexact Hf
    isplitl [HO]; · iexact HO
    iapply (mayWait d (.dma q) n (by rw [hq]; omega)); iexact Hlev
  iintro ⟨HD, Hv, HO⟩
  iapply Hk
  isplitl [HD]; · iexact HD
  isplitl [Hv]; · iexact Hv
  iexists _; iexact HO

omit [FloatOps F] in
/-- A slice seen through another shape has the slice's elements. -/
theorem set_squeeze {sp : Space} {s s' : Shape} {e : EltTy} (M : Memref sig .tc sp s e) (r : Rect s) (hr : ∀ a, r.stride a = 1)
    (hq : r.shape.Squeezes s') : ((M.slice r hr).squeeze s' hq).view.set = (M.access r).set :=
  (M.slice r hr).view.set_reshape hq.numel_eq

/-- Loading a slice through the buffer it is cut from reads what the slice is owned at. -/
theorem load_slice {sp : CoreSpace} {s : Shape} {e : EltTy} {M : Memref sig .tc sp s e} {r : Rect s} {hr : ∀ a, r.stride a = 1}
    {hl : M.view.LoadsAt r.toLoadRect} {k : (r.shape.Idx → Elt F e) → Prog (TpuEff nD τ sig (Elt F) Λ₀ .tc) α} {X : r.shape.Idx → Elt F e}
    {sh : PosShare TreeShare} :
    owns (d : Thread nD τ) (M.slice r hr) sh X ⊢ iprop((owns (d : Thread nD τ) (M.slice r hr) sh X -∗ WP d (k X) Q)
      -∗ WP d (.op (.load M r.toLoadRect hl) k) Q) := by
  unfold owns
  iintro ⟨%f, %hf, H⟩ Hk
  subst hf
  iapply (wp_load_rect 𝒱₀ (d : Thread nD τ) none Set.univ (m := M) (r := r) (Finset.Subset.refl _)) $$ H
  iintro H
  iapply Hk
  iexists f
  isplitr; · ipureintro; rfl
  iexact H

/-- Loading the whole own-half buffer reads what it is owned at. -/
theorem load_a {hl : aW.view.LoadsAt (Rect.unit (s := S1024x1024) ![0, 0] S1024x1024.size inb_S1024x1024_S1024x1024_0_0).toLoadRect}
    {k : Vec F S1024x1024 .f32 → Prog (TpuEff nD τ sig (Elt F) Λ₀ .tc) α} {X : Vec F S1024x1024 .f32} :
    owns (d : Thread nD τ) aW fullShare X ⊢ iprop((owns (d : Thread nD τ) aW fullShare X -∗ WP d (k X) Q)
      -∗ WP d (.op (.load aW (Rect.unit (s := S1024x1024) ![0, 0] S1024x1024.size inb_S1024x1024_S1024x1024_0_0).toLoadRect hl) k) Q) := by
  have hz : (![0, 0] : Fin 2 → ℕ) = fun _ => 0 := by funext a; revert a; decide
  unfold owns
  iintro ⟨%f, %hf, H⟩ Hk
  iapply (wp_load_rect 𝒱₀ (d : Thread nD τ) none Set.univ (m := aW) (r := Rect.unit (s := S1024x1024) ![0, 0] S1024x1024.size inb_S1024x1024_S1024x1024_0_0)
    (S := aW.view.set) (by rw [show aW.view.set = Finset.univ from View.set_whole _]; exact Finset.subset_univ _)) $$ H
  rw [show (aW.access (Rect.unit (s := S1024x1024) ![0, 0] S1024x1024.size inb_S1024x1024_S1024x1024_0_0)).read (Elt F) f = X from
    (Memref.read_access_unit_zero (Elt F) cc0_scratch3 hz inb_S1024x1024_S1024x1024_0_0 f).trans hf]
  iintro H
  iapply Hk
  iexists f
  isplitr; · ipureintro; exact hf
  iexact H

/-- The same of a slice seen through another shape: the load reads the contents cast to the slice's shape. -/
theorem load_squeeze {sp : CoreSpace} {s s' : Shape} {e : EltTy} {M : Memref sig .tc sp s e} {r : Rect s} {hr : ∀ a, r.stride a = 1}
    {hq : r.shape.Squeezes s'} (hc : r.shape.ShapeCasts s') (hc' : s'.ShapeCasts r.shape)
    {hl : M.view.LoadsAt r.toLoadRect} {k : (r.shape.Idx → Elt F e) → Prog (TpuEff nD τ sig (Elt F) Λ₀ .tc) α} {X : s'.Idx → Elt F e}
    {sh : PosShare TreeShare} :
    owns (d : Thread nD τ) ((M.slice r hr).squeeze s' hq) sh X ⊢ iprop((owns (d : Thread nD τ) ((M.slice r hr).squeeze s' hq) sh X
        -∗ WP d (k (shapeCast r.shape X hc')) Q)
      -∗ WP d (.op (.load M r.toLoadRect hl) k) Q) := by
  unfold owns
  iintro ⟨%f, %hf, H⟩ Hk
  rw [Memref.read_squeeze_slice M r hr hq hc] at hf
  subst hf
  iapply (wp_load_rect 𝒱₀ (d : Thread nD τ) none Set.univ (m := M) (r := r)
    (set_squeeze M r hr hq).ge) $$ H
  iintro H
  rw [shapeCast_shapeCast]
  iapply Hk
  iexists f
  isplitr; · ipureintro; rfl
  iexact H

/-- Storing a slice seen through another shape leaves it at the payload cast to that shape. -/
theorem store_squeeze {sp : CoreSpace} {s s' : Shape} {e : EltTy} {M : Memref sig .tc sp s e} {r : Rect s} {hr : ∀ a, r.stride a = 1}
    {hq : r.shape.Squeezes s'} (hc : r.shape.ShapeCasts s') {w : r.shape.Idx → Elt F e}
    {hx : (M.access r).Stores Finset.univ} {hm : Finset.univ = Finset.univ ∨ ∀ a, r.stride a = 1}
    {k : PUnit → Prog (TpuEff nD τ sig (Elt F) Λ₀ .tc) α} :
    Held d ((M.slice r hr).squeeze s' hq) ⊢ iprop((owns (d : Thread nD τ) ((M.slice r hr).squeeze s' hq) fullShare (shapeCast s' w hc)
        -∗ WP d (k ⟨⟩) Q)
      -∗ WP d (.op (.store M r w Finset.univ hx hm) k) Q) := by
  unfold Held owns
  iintro ⟨%Y, %f, -, H⟩ Hk
  iapply (wp_store 𝒱₀ (d : Thread nD τ) none Set.univ (m := M) (r := r) (Mk := Finset.univ)
    (show (M.access r).set ⊆ _ from (set_squeeze M r hr hq).ge)) $$ H
  iintro H
  iapply Hk
  iexists _
  isplitr
  swap; · iexact H
  ipureintro
  rw [Memref.read_squeeze_slice M r hr hq hc]
  exact congrArg (fun v => shapeCast s' v hc) (View.read_write_univ (v := M.access r) f w)

end Ops

end Cert.KProof
-- ==== Proof.Chunks.lean ====
/-
The stretches of the kernel's loop body, each stated once for every chunk and proved from the rules of its
operations: shipping a chunk, waiting for a chunk to be read out, fetching the own half and the peer's chunk,
adding them and starting the result's copy, collecting a result; and the barrier's signal and wait.
-/
module

public import proofs.«01_k».proof.Proof.Steps

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

/-! ## Payloads -/

/-- What is stored to the bf16 staging slot is the f32 slot rounded. -/
theorem round_chunk (X : Vec F S1024x1024 .f32) :
    shapeCast S1024x1024 (k0_pay1 (shapeCast S1x1024x1024 X shapeCasts_S1024x1024_S1x1024x1024)) shapeCasts_S1x1024x1024_S1024x1024
      = truncf .bf16 X bitsLt_bf16_f32 := by
  unfold k0_pay1
  dsimp only
  rw [shapeCast_shapeCast, shapeCast_shapeCast]

/-- What is stored to the result slot is the own half plus the peer's chunk. -/
theorem add_chunk (X : Vec F S1024x1024 .f32) (Y : Vec F S1024x1024 .bf16) :
    shapeCast S1024x1024 (k0_pay3 X Y) shapeCasts_S1x1024x1024_S1024x1024 = addf X (extf .f32 Y bitsLt_bf16_f32) := by
  unfold k0_pay3
  dsimp only
  rw [shapeCast_shapeCast]

/-- Every chunk is worth the same credit, wherever it lies. -/
theorem credit_comm (i : Fin 8) : (commP i).view.dmaCredit = NB := rfl
theorem credit_sb (b : Fin 2) : (sbS b).view.dmaCredit = NB := rfl
theorem credit_sf (b : Fin 2) : (sfS b).view.dmaCredit = NF := rfl
theorem credit_out (i : Fin 8) : (outP i).view.dmaCredit = NF := rfl

/-- The local copies' semaphores are at the lowest level. -/
theorem lv_stage (d : Dev nD) (b : Fin 2) : lv ((d : Thread nD τ), .dma (stQ b)) () = 0 := by
  show (if 8 ≤ 16 + b.val ∧ 16 + b.val < 16 then 16 + b.val - 6 else 0) = 0
  rw [if_neg (by omega)]
theorem lv_out (d : Dev nD) (b : Fin 2) : lv ((d : Thread nD τ), .dma (outQ b)) () = 0 := by
  show (if 8 ≤ 19 + b.val ∧ 19 + b.val < 16 then 19 + b.val - 6 else 0) = 0
  rw [if_neg (by omega)]
theorem lv_a (d : Dev nD) : lv ((d : Thread nD τ), .dma aQ) () = 0 := by
  show (if 8 ≤ 18 ∧ 18 < 16 then 18 - 6 else 0) = 0
  rw [if_neg (by omega)]

/-! ## Resources of a local copy's place -/

/-- The operand's block on `d`, a share of it. -/
def xPts (d : Dev nD) (sh : PosShare TreeShare) : sProp 𝕄 := ((d : Thread nD τ).loc main_arg0) ↦{sh} (x0 m d)

section
variable {sp : Space} (d : Dev nD) (M : Memref sig .tc sp S1024x1024 .f32) (q : DmaSem sig) (sh : PosShare TreeShare)

/-- A buffer the operand's pieces are copied to, with no copy in flight; -/
def Idle : sProp 𝕄 := iprop(Held d M ∗ xPts m d sh ∗ semVal ((d : Thread nD τ), .dma q) 0)
/-- and with a copy in flight that will leave it at `Y`. -/
def Busy (Y : Vec F S1024x1024 .f32) : sProp 𝕄 :=
  Flight EC (d : Thread nD τ) (.dma q) () NF iprop(owns (d : Thread nD τ) M fullShare Y ∗ xPts m d sh)
end

/-- A result slot with no copy in flight; -/
def Free (d : Dev nD) (b : Fin 2) : sProp 𝕄 := iprop(Held (F := F) d (oS b) ∗ semVal ((d : Thread nD τ), .dma (outQ b)) 0)
/-- and with the copy of result chunk `i` in flight. -/
def Out (d : Dev nD) (b : Fin 2) (i : Fin 8) : sProp 𝕄 :=
  Flight EC (d : Thread nD τ) (.dma (outQ b)) () NF iprop(owns (d : Thread nD τ) (outP i) fullShare (res m d i) ∗ Held (F := F) d (oS b))

/-- What `d` ships chunk `i` with: the duties of its send cell and of the peer's receive cell, and the peer's landing rows. -/
def Fare (d : Dev nD) (i : Fin 8) : sProp 𝕄 :=
  iprop(dutyTok EX (sendCell d i) 0 () ∗ dutyTok EX (recvCell (peer d) i) 0 () ∗ Held (F := F) (peer d) (commP i))

/-- What the barrier signal to the peer carries: the own landing buffer. -/
theorem barPay_peer (d : Dev nD) :
    (sched (F := F) m).payload (barCell (peer d)) 0 () = bigSep Finset.univ fun i : Fin 8 => Held (F := F) d (commP i) := by
  show barPay (F := F) (peer d) = _
  unfold barPay; rw [peer_peer]

/-! ## The stretches -/

section Stretches
variable (K : Dev nD × Fin 17 → ℕ) (d : Dev nD) {α : Type} {Q : α → sProp (MT nD τ sig Unit (Elt F) ℕ UU ℕ)}

/-- Starting the copy of a piece of the operand. -/
theorem fetch {sp : Space} {M : Memref sig .tc sp S1024x1024 .f32} {q : DmaSem sig} {sh : PosShare TreeShare}
    {off : Fin 3 → ℕ} {ho : ∀ a, off a + S1x1024x1024.size a ≤ S1x8192x2048.size a}
    {hsrc : (xPiece off ho).view.WordExact} {hdst : M.view.WordExact}
    {hsem : DmaTarget.Typed (nD := nD) (τ := τ) (p := .tc) .hbm (.dma q) (.here M)}
    {k : PUnit → Prog (TpuEff nD τ sig (Elt F) Λ₀ .tc) α} (hN : M.view.dmaCredit = NF) :
    Idle m d M q sh ⊢ iprop((Busy m d M q sh ((xPiece off ho).view.read (Elt F) (x0 m d)) -∗ WP d (k ⟨⟩) Q)
      -∗ WP d (.op (.enqueueDma (xPiece off ho) (.here M) (.dma q) hsrc hdst hsem) k) Q) := by
  unfold Idle Busy xPts
  iintro ⟨HM, Hx, Hv⟩ Hk
  iapply (issue d (src := xPiece off ho) (S := Finset.univ) (Finset.subset_univ _) NF hN NF_pos) $$ Hx HM Hv
  iexact Hk

/-- A round of the exchange's cell ends: what the one duty hands over. -/
theorem round_wait {sp sp' : Space} {s s' : Shape} {e e' : EltTy} {κ' : Kind} {q : DmaSem sig}
    {srcw : Memref sig .tc sp' s' e'} {dstw : Memref sig κ' sp s e} {hsrc : srcw.view.WordExact} {hdst : dstw.view.WordExact}
    {k : PUnit → Prog (TpuEff nD τ sig (Elt F) Λ₀ .tc) α} (hN : dstw.view.dmaCredit = NB) (kq : Fin 17)
    (hkq : kcell (d, kq) = ((d : Thread nD τ), .dma q)) (hm : Mine ((d : Thread nD τ), .dma q)) (n : ℕ)
    (hlv : lv ((d : Thread nD τ), .dma q) () < 2 + n) {D : sProp 𝕄} (hD : pay m d (.dma q) = D) :
    env m K ⊢ iprop(atPos EX ((d : Thread nD τ), .dma q) 0 ∅ 0 -∗ cred (tallyAt ((d : Thread nD τ), .dma q) () NB) -∗ Ow d (debt d n)
      -∗ (iprop(D ∗ semVal ((d : Thread nD τ), .dma q) 0 ∗ Ow d (debt d n)) -∗ WP d (k ⟨⟩) Q)
      -∗ WP d (.op (.waitDma2 q srcw dstw hsrc hdst) k) Q) := by
  unfold Ow
  iintro #HE Hat Hc ⟨%W, HO⟩ Hk
  ihave #HI := (env_inv m K (d, kq) hkq) $$ HE
  rw [← hN]
  iapply (Rounds.wp_wait_rest_token 𝒱₀ EX (sched m) (d : Thread nD τ) none (κ := K (d, kq))
      (wpE_waitDma2_eq 𝒱₀ (d : Thread nD τ) none Set.univ) (Set.mem_univ _) () (O := debt d n) (W := W) (R := 0) (m := 0) (T := ∅)
      (by rw [Nat.zero_add, expect_mine m hm, amount_dma]; exact hN)) $$ [Hc HO Hat]
  · isplitr; · iexact HI
    isplitl [Hc]; · iexact Hc
    isplitl [HO]; · iexact HO
    isplitr; · iapply (mayWait d (.dma q) n hlv); iapply (env_lev m K); iexact HE
    iexact Hat
  iintro ⟨HO, Hat, -, Hpay⟩
  imod (Rounds.cell_close EX (sched m) (Set.mem_univ (K (d, kq))) (fun h => h) (R := 0 + 1) (duties_later m _)) $$ [Hat] with Hz
  · isplitr; · iexact HI
    iexact Hat
  iapply Hk
  isplitl [Hpay]; · iapply (Entails.of_eq ((rest_mine m hm).trans hD)); iexact Hpay
  isplitl [Hz]; · iexact Hz
  iexists _; iexact HO

/-- Sending a staged chunk to the peer. -/
theorem send (i : Fin 8) (b : Fin 2) (hb : par i.val = b) {n : Dev nD} (hn : n = peer d)
    {hsc : (commP i).view.ref.isScScratch = false}
    {hsrc : (sbS b).view.WordExact} {hdst : (commP i).view.WordExact}
    {hsem : DmaTarget.Typed .vmem (.dma (recvQ i)) (.remote (Dev.tc n : Thread nD τ) (commP i) (.dma (sendQ i)) hsc)}
    {k : PUnit → Prog (TpuEff nD τ sig (Elt F) Λ₀ .tc) α} :
    env m K ⊢ iprop(owns (d : Thread nD τ) (sbS b) fullShare (sent m d i) -∗ Fare d i -∗ Ow d (debt d i.val)
      -∗ (iprop(cred (tallyAt (sendCell d i) () NB) ∗ Ow d (debt d (i.val + 1))) -∗ WP d (k ⟨⟩) Q)
      -∗ WP d (.op (.enqueueDma (sbS b) (.remote (Dev.tc n : Thread nD τ) (commP i) (.dma (sendQ i)) hsc) (.dma (recvQ i)) hsrc hdst hsem) k) Q) := by
  subst hn
  subst hb
  unfold Fare Ow Held owns
  iintro #HE ⟨%f, %hf, Hs⟩ ⟨HtS, HtR, ⟨%Y, %g, -, Hd⟩⟩ ⟨%W, HO⟩ Hk
  ihave #HIs := (env_inv m K (d, kS i) (kcell_send d i)) $$ HE
  ihave #HIr := (env_inv m K (peer d, kR i) (kcell_recv (peer d) i)) $$ HE
  ihave #HRs := (env_reached m K (d, kS i) (kcell_send d i)) $$ HE
  ihave #HRr := (env_reached m K (peer d, kR i) (kcell_recv (peer d) i)) $$ HE
  iapply (Rounds.wp_send_pointsTo 𝒱₀ EX (sched m) (d : Thread nD τ) none (κ₁ := K (d, kS i)) (κ₂ := K (peer d, kR i))
    (c' := (peer d : Thread nD τ)) (src := sbS (par i.val)) (dst := commP i) (sS := .dma (sendQ i)) (sem := .dma (recvQ i))
    (r₁ := 0) (r₂ := 0) (d₁ := ()) (d₂ := ()) (fd := g)
    (mem_duties m (mine_send d i)) (mem_duties m (mine_recv (peer d) i))
    () () NB (credit_comm i) (amount_dma m d (sendQ i)) (amount_dma m (peer d) (recvQ i)) (debt d (i.val + 1)) (debt_step d i) (W := W)
    (by
      show _ ⊢ pay m d (.dma (sendQ i))
      rw [pay_send]; unfold sendPay Held owns
      iintro H
      iexists _; iexists f; isplitr; · ipureintro; rfl
      iexact H)
    (by
      show _ ⊢ pay m (peer d) (.dma (recvQ i))
      rw [pay_recv, recvPay, peer_peer]; unfold owns
      iintro H
      iexists _
      isplitr
      swap; · iexact H
      ipureintro
      exact (View.read_write_univ (v := (commP i).view) g _).trans hf)) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact HRs
    isplitl [HtR]; · iexact HtR
    iexact HRr
  iintro ⟨Hc, HO⟩
  iapply Hk
  isplitl [Hc]; · iexact Hc
  iexists _; iexact HO

/-- Shipping chunk `i`: its f32 copy arrives in the staging slot, is rounded to bf16 and sent to the peer. -/
theorem ship (i : Fin 8) (b : Fin 2) (hb : par i.val = b) (j : ℕ) (hj : i.val = j) {sh : PosShare TreeShare} {n : Dev nD} (hn : n = peer d)
    {sp' : Space} {s' : Shape} {e' : EltTy} {srcw : Memref sig .tc sp' s' e'} {hw1 : srcw.view.WordExact} {hw2 : (sfS b).view.WordExact}
    {hl1 : sfW.view.LoadsAt (slotR b).toLoadRect} {hl2 : sbW.view.LoadsAt (slotR b).toLoadRect}
    {hx : (sbW.access (slotR b)).Stores Finset.univ} {hm : Finset.univ = Finset.univ ∨ ∀ a, (slotR b).stride a = 1}
    {hsc : (commP i).view.ref.isScScratch = false}
    {hsrc : (sbS b).view.WordExact} {hdst : (commP i).view.WordExact}
    {hsem : DmaTarget.Typed .vmem (.dma (recvQ i)) (.remote (Dev.tc n : Thread nD τ) (commP i) (.dma (sendQ i)) hsc)}
    {k : PUnit → Prog (TpuEff nD τ sig (Elt F) Λ₀ .tc) α} :
    env m K ⊢ iprop(Busy m d (sfS b) (stQ b) sh (give m d i) -∗ Held d (sbS b) -∗ Fare d i -∗ Ow d (debt d j)
      -∗ (iprop(Idle m d (sfS b) (stQ b) sh ∗ cred (tallyAt (sendCell d i) () NB) ∗ Ow d (debt d (j + 1))) -∗ WP d (k ⟨⟩) Q)
      -∗ WP d (.op (.waitDma2 (stQ b) srcw (sfS b) hw1 hw2) fun _ =>
          .op (.load sfW (slotR b).toLoadRect hl1) fun v => .op (.load sbW (slotR b).toLoadRect hl2) fun _ =>
          .op (.store sbW (slotR b) (k0_pay1 v) Finset.univ hx hm) fun _ =>
          .op (.enqueueDma (sbS b) (.remote (Dev.tc n : Thread nD τ) (commP i) (.dma (sendQ i)) hsc) (.dma (recvQ i)) hsrc hdst hsem) k) Q) := by
  subst hj
  unfold Busy
  iintro #HE Hf Hsb HF HO Hk
  iapply (collect d NF (credit_sf b) i.val (lv_stage d b)) $$ [] Hf HO
  · iapply (env_lev m K); iexact HE
  iintro ⟨⟨Hsf, Hx⟩, Hv, HO⟩
  iapply (load_squeeze d shapeCasts_S1x1024x1024_S1024x1024 shapeCasts_S1024x1024_S1x1024x1024) $$ Hsf
  iintro Hsf
  unfold Held
  icases Hsb with ⟨%Y, Hsb⟩
  iapply (load_squeeze d shapeCasts_S1x1024x1024_S1024x1024 shapeCasts_S1024x1024_S1x1024x1024) $$ Hsb
  iintro Hsb
  iapply (store_squeeze d shapeCasts_S1x1024x1024_S1024x1024) $$ [Hsb]
  · unfold Held; iexists Y; iexact Hsb
  iintro Hsb
  iapply (send m K d i b hb hn) $$ HE [Hsb] HF HO
  · unfold sent; rw [← round_chunk]; iexact Hsb
  iintro ⟨Hc, HO⟩
  iapply Hk
  isplitl [Hsf Hx Hv]
  · unfold Idle Held
    isplitl [Hsf]; · iexists _; iexact Hsf
    isplitl [Hx] <;> iassumption
  isplitl [Hc] <;> iassumption

/-- Waiting until chunk `i` has been read out of its slot. -/
theorem sent_wait (i : Fin 8) (b : Fin 2) (hb : par i.val = b) {sp' : Space} {s' : Shape} {e' : EltTy}
    {srcw : Memref sig .tc sp' s' e'} {hw1 : srcw.view.WordExact} {hw2 : (sbS b).view.WordExact} (n : ℕ)
    {k : PUnit → Prog (TpuEff nD τ sig (Elt F) Λ₀ .tc) α} :
    env m K ⊢ iprop(atPos EX (sendCell d i) 0 ∅ 0 -∗ cred (tallyAt (sendCell d i) () NB) -∗ Ow d (debt d n)
      -∗ (iprop(Held d (sbS b) ∗ semVal (sendCell d i) 0 ∗ Ow d (debt d n)) -∗ WP d (k ⟨⟩) Q)
      -∗ WP d (.op (.waitDma2 (sendQ i) srcw (sbS b) hw1 hw2) k) Q) :=
  round_wait m K d (credit_sb b) (kS i) (kcell_send d i) (mine_send d i) n
    (by
      have h : lv ((d : Thread nD τ), .dma (sendQ i)) () = 0 := by
        show (if 8 ≤ i.val ∧ i.val < 16 then i.val - 6 else 0) = 0
        rw [if_neg (by omega)]
      rw [h]; omega)
    (by rw [pay_send, hb]; rfl)

/-- Fetching chunk `i` of the own half while the peer's chunk `i` arrives. -/
theorem gather (i : Fin 8) (n : ℕ) (hi : i.val < n) {sh : PosShare TreeShare}
    {off : Fin 3 → ℕ} {ho : ∀ a, off a + S1x1024x1024.size a ≤ S1x8192x2048.size a} (hoff : off = offA d i)
    {hsrc : (xPiece off ho).view.WordExact} {hdst : aW.view.WordExact}
    {hsem : DmaTarget.Typed (nD := nD) (τ := τ) (p := .tc) .hbm (.dma aQ) (.here aW)}
    {sp' : Space} {s' : Shape} {e' : EltTy} {srcw : Memref sig .tc sp' s' e'} {hw1 : srcw.view.WordExact} {hw2 : (commP i).view.WordExact}
    {sp'' : Space} {s'' : Shape} {e'' : EltTy} {srcx : Memref sig .tc sp'' s'' e''} {hw3 : srcx.view.WordExact} {hw4 : aW.view.WordExact}
    {k : PUnit → Prog (TpuEff nD τ sig (Elt F) Λ₀ .tc) α} :
    env m K ⊢ iprop(Idle m d aW aQ sh -∗ atPos EX (recvCell d i) 0 ∅ 0 -∗ cred (tallyAt (recvCell d i) () NB) -∗ Ow d (debt d n)
      -∗ (iprop(owns (d : Thread nD τ) aW fullShare (keep m d i) ∗ xPts m d sh ∗ semVal ((d : Thread nD τ), .dma aQ) 0
            ∗ owns (d : Thread nD τ) (commP i) fullShare (sent m (peer d) i) ∗ semVal (recvCell d i) 0 ∗ Ow d (debt d n)) -∗ WP d (k ⟨⟩) Q)
      -∗ WP d (.op (.enqueueDma (xPiece off ho) (.here aW) (.dma aQ) hsrc hdst hsem) fun _ =>
          .op (.waitDma2 (recvQ i) srcw (commP i) hw1 hw2) fun _ => .op (.waitDma2 aQ srcx aW hw3 hw4) k) Q) := by
  subst hoff
  iintro #HE Ha Hat Hc HO Hk
  iapply (fetch m d rfl) $$ Ha
  iintro Hf
  iapply (round_wait m K d (credit_comm i) (kR i) (kcell_recv d i) (mine_recv d i) n (by rw [lv_recv]; omega) (pay_recv m d i)) $$ HE Hat Hc HO
  iintro ⟨Hcomm, Hz, HO⟩
  unfold Busy
  iapply (collect d NF rfl n (lv_a d)) $$ [] Hf HO
  · iapply (env_lev m K); iexact HE
  iintro ⟨⟨Ha, Hx⟩, Hv, HO⟩
  iapply Hk
  isplitl [Ha]; · unfold keep; iexact Ha
  isplitl [Hx]; · iexact Hx
  isplitl [Hv]; · iexact Hv
  isplitl [Hcomm]; · unfold recvPay; iexact Hcomm
  isplitl [Hz] <;> iassumption

/-- Adding the own chunk and the peer's, and starting the copy of the sum to the result. -/
theorem emit (i : Fin 8) (b : Fin 2) {hl1 : aW.view.LoadsAt (Rect.unit (s := S1024x1024) ![0, 0] S1024x1024.size inb_S1024x1024_S1024x1024_0_0).toLoadRect}
    {hl2 : commW.view.LoadsAt (rowR i).toLoadRect} {hl3 : oW.view.LoadsAt (slotR b).toLoadRect}
    {hx : (oW.access (slotR b)).Stores Finset.univ} {hm : Finset.univ = Finset.univ ∨ ∀ a, (slotR b).stride a = 1}
    {hsrc : (oS b).view.WordExact} {hdst : (outP i).view.WordExact}
    {hsem : DmaTarget.Typed (nD := nD) (τ := τ) (p := .tc) .vmem (.dma (outQ b)) (.here (outP i))}
    {k : PUnit → Prog (TpuEff nD τ sig (Elt F) Λ₀ .tc) α} :
    owns (d : Thread nD τ) aW fullShare (keep m d i) ⊢ iprop(owns (d : Thread nD τ) (commP i) fullShare (sent m (peer d) i) -∗ Free d b
      -∗ Held d (outP i)
      -∗ (iprop(Held d aW ∗ Held d (commP i) ∗ Out m d b i) -∗ WP d (k ⟨⟩) Q)
      -∗ WP d (.op (.load aW (Rect.unit (s := S1024x1024) ![0, 0] S1024x1024.size inb_S1024x1024_S1024x1024_0_0).toLoadRect hl1) fun va =>
          .op (.load commW (rowR i).toLoadRect hl2) fun vc => .op (.load oW (slotR b).toLoadRect hl3) fun _ =>
          .op (.store oW (slotR b) (k0_pay3 va vc) Finset.univ hx hm) fun _ =>
          .op (.enqueueDma (oS b) (.here (outP i)) (.dma (outQ b)) hsrc hdst hsem) k) Q) := by
  unfold Free Held
  iintro Ha Hc ⟨Ho, Hv⟩ Hout Hk
  iapply (load_a d) $$ Ha
  iintro Ha
  iapply (load_slice d) $$ Hc
  iintro Hc
  icases Ho with ⟨%Y, Ho⟩
  iapply (load_squeeze d shapeCasts_S1x1024x1024_S1024x1024 shapeCasts_S1024x1024_S1x1024x1024) $$ Ho
  iintro Ho
  iapply (store_squeeze d shapeCasts_S1x1024x1024_S1024x1024) $$ [Ho]
  · unfold Held; iexists Y; iexact Ho
  rw [add_chunk]
  iintro Ho
  unfold Held owns at *
  icases Ho with ⟨%f, %hf, Ho⟩
  iapply (issue d (src := oS b) (dst := outP i) (Finset.Subset.refl _) NF (credit_out i) NF_pos) $$ Ho [Hout] Hv
  · unfold Held owns; iexact Hout
  iintro Hf
  iapply Hk
  isplitl [Ha]; · iexists _; iexact Ha
  isplitl [Hc]; · iexists _; iexact Hc
  unfold Out
  iapply (Transfers.Flight_mono EC (d : Thread nD τ) (D := iprop(owns (d : Thread nD τ) (outP i) fullShare ((oS b).view.read (Elt F) f)
      ∗ ((oS b).view.loc (d : Thread nD τ) ↦[(oS b).view.set]{fullShare} f))) (by
    unfold Held owns
    iintro ⟨H, Ho⟩
    isplitl [H]
    · icases H with ⟨%g, %hg, H⟩
      iexists g; isplitr; · ipureintro; exact hg.trans hf
      iexact H
    · iexists _; iexists f; isplitr; · ipureintro; rfl
      iexact Ho))
  iexact Hf

/-- Collecting result chunk `i`: it lies in its rows, and its slot is free. -/
theorem retire (i : Fin 8) (b : Fin 2) (n : ℕ) {sp' : Space} {s' : Shape} {e' : EltTy} {srcw : Memref sig .tc sp' s' e'}
    {hw1 : srcw.view.WordExact} {hw2 : (outP i).view.WordExact}
    {k : PUnit → Prog (TpuEff nD τ sig (Elt F) Λ₀ .tc) α} :
    env m K ⊢ iprop(Out m d b i -∗ Ow d (debt d n)
      -∗ (iprop(owns (d : Thread nD τ) (outP i) fullShare (res m d i) ∗ Free d b ∗ Ow d (debt d n)) -∗ WP d (k ⟨⟩) Q)
      -∗ WP d (.op (.waitDma2 (outQ b) srcw (outP i) hw1 hw2) k) Q) := by
  unfold Out Free
  iintro #HE Hf HO Hk
  iapply (collect d NF (credit_out i) n (lv_out d b)) $$ [] Hf HO
  · iapply (env_lev m K); iexact HE
  iintro ⟨⟨Hout, Ho⟩, Hv, HO⟩
  iapply Hk
  isplitl [Hout]; · iexact Hout
  isplitr [HO]; · isplitl [Ho] <;> iassumption
  iexact HO

/-- Signalling the peer's barrier: the own landing buffer goes with the signal. -/
theorem barrier_signal {n : Dev nD} (hn : n = peer d)
    {k : PUnit → Prog (TpuEff nD τ sig (Elt F) Λ₀ .tc) α} :
    env m K ⊢ iprop(dutyTok EX (barCell (peer d)) 0 () -∗ (bigSep Finset.univ fun i : Fin 8 => Held (F := F) d (commP i)) -∗ Ow d (O₀ d)
      -∗ (Ow d (debt d 0) -∗ WP d (k ⟨⟩) Q)
      -∗ WP d (.op (.semSignal (Dev.tc n : Thread nD τ) barS 1) k) Q) := by
  subst hn
  unfold Ow
  iintro #HE Ht Hcomm ⟨%W, HO⟩ Hk
  ihave #HI := (env_inv m K (peer d, kB) (kcell_bar (peer d))) $$ HE
  ihave #HR := (env_reached m K (peer d, kB) (kcell_bar (peer d))) $$ HE
  iapply (Rounds.wp_signal 𝒱₀ EX (sched m) (d : Thread nD τ) none (dst := (peer d : Thread nD τ)) (κ := K (peer d, kB))
      (d := ()) (mem_duties m (mine_bar (peer d))) (amount_bar m (peer d)) () (debt d 0) rfl) $$ [HO Ht Hcomm]
  · isplitr; · iexact HI
    isplitl [HO]; · iexact HO
    isplitl [Ht]; · iexact Ht
    isplitl [Hcomm]
    · iapply (Entails.of_eq (barPay_peer m d).symm); iexact Hcomm
    · iexact HR
  iintro HO
  iapply Hk
  iexists _; iexact HO

/-- Waiting for the peer's signal: the peer's landing buffer. -/
theorem barrier_wait {k : PUnit → Prog (TpuEff nD τ sig (Elt F) Λ₀ .tc) α} :
    env m K ⊢ iprop(atPos EX (barCell d) 0 ∅ 0 -∗ cred (tallyAt (barCell d) () 1) -∗ Ow d (debt d 0)
      -∗ (iprop((bigSep Finset.univ fun i : Fin 8 => Held (F := F) (peer d) (commP i)) ∗ semVal (barCell d) 0 ∗ Ow d (debt d 0)) -∗ WP d (k ⟨⟩) Q)
      -∗ WP d (.op (.semWait barS 1) k) Q) := by
  unfold Ow
  iintro #HE Hat Hc ⟨%W, HO⟩ Hk
  ihave #HI := (env_inv m K (d, kB) (kcell_bar d)) $$ HE
  iapply (Rounds.wp_wait_rest_token 𝒱₀ EX (sched m) (d : Thread nD τ) none (κ := K (d, kB))
      (wpE_semWait_eq 𝒱₀ (d : Thread nD τ) none Set.univ) (Set.mem_univ _) () (O := debt d 0) (W := W) (R := 0) (m := 0) (T := ∅)
      (by rw [Nat.zero_add, expect_mine m (mine_bar d), amount_bar])) $$ [Hc HO Hat]
  · isplitr; · iexact HI
    isplitl [Hc]; · iexact Hc
    isplitl [HO]; · iexact HO
    isplitr; · iapply (mayWait d (.reg barS) 0 Nat.one_lt_two); iapply (env_lev m K); iexact HE
    iexact Hat
  iintro ⟨HO, Hat, -, Hpay⟩
  imod (Rounds.cell_close EX (sched m) (Set.mem_univ (K (d, kB))) (fun h => h) (R := 0 + 1) (duties_later m _)) $$ [Hat] with Hz
  · isplitr; · iexact HI
    iexact Hat
  iapply Hk
  isplitl [Hpay]; · iapply (Entails.of_eq ((rest_mine m (mine_bar d)).trans ((pay_bar m d).trans (by unfold barPay; rfl)))); iexact Hpay
  isplitl [Hz]; · iexact Hz
  iexists _; iexact HO

end Stretches

end Cert.KProof
-- ==== Proof.Pieces.lean ====
/-
The buffers cut into the pieces the kernel works on, and put together again: eight row chunks of the landing
buffer and of the result, two slots of each staging buffer, three shares of the operand.
-/
module

public import proofs.«01_k».proof.Proof.Chunks
public import Idealize.ShloMosaic.Lib.MemrefSat

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## The rectangles tile their buffers -/

theorem rows_disj (i j : Fin 8) (h : i ≠ j) : Disjoint (rowR i).set (rowR j).set := by
  rw [Finset.disjoint_left]
  intro x hi hj
  have h1 := Rect.mem_set_unit.mp hi 0
  have h2 := Rect.mem_set_unit.mp hj 0
  simp only [Matrix.cons_val_zero] at h1 h2
  have e : S1024x1024.size 0 = 1024 := rfl
  exact h (Fin.ext (by omega))

theorem rows_cover : (Finset.univ : Finset (Fin 8)).biUnion (fun i => (rowR i).set) = Finset.univ := by
  refine Finset.eq_univ_iff_forall.mpr fun x => Finset.mem_biUnion.mpr ?_
  have h0 : (x 0).val < 8192 := (x 0).isLt
  have h1 : (x 1).val < 1024 := (x 1).isLt
  refine ⟨⟨(x 0).val / 1024, by omega⟩, Finset.mem_univ _, Rect.mem_set_unit.mpr (Fin.forall_fin_two.mpr ⟨?_, ?_⟩)⟩
  · show 1024 * ((x 0).val / 1024) ≤ (x 0).val ∧ (x 0).val < 1024 * ((x 0).val / 1024) + 1024
    omega
  · show 0 ≤ (x 1).val ∧ (x 1).val < 0 + 1024
    omega

theorem slots_disj (i j : Fin 2) (h : i ≠ j) : Disjoint (slotR i).set (slotR j).set := by
  rw [Finset.disjoint_left]
  intro x hi hj
  have h1 := Rect.mem_set_unit.mp hi 0
  have h2 := Rect.mem_set_unit.mp hj 0
  simp only [Matrix.cons_val_zero] at h1 h2
  have e : S1x1024x1024.size 0 = 1 := rfl
  exact h (Fin.ext (by omega))

theorem slots_cover : (Finset.univ : Finset (Fin 2)).biUnion (fun i => (slotR i).set) = Finset.univ := by
  refine Finset.eq_univ_iff_forall.mpr fun x => Finset.mem_biUnion.mpr ?_
  have h0 : (x 0).val < 2 := (x 0).isLt
  have h1 : (x 1).val < 1024 := (x 1).isLt
  have h2 : (x 2).val < 1024 := (x 2).isLt
  refine ⟨⟨(x 0).val, h0⟩, Finset.mem_univ _, Rect.mem_set_unit.mpr fun a => ?_⟩
  match a with
  | ⟨0, _⟩ => show (x 0).val ≤ (x 0).val ∧ (x 0).val < (x 0).val + 1; omega
  | ⟨1, _⟩ => show 0 ≤ (x 1).val ∧ (x 1).val < 0 + 1024; omega
  | ⟨2, _⟩ => show 0 ≤ (x 2).val ∧ (x 2).val < 0 + 1024; omega

/-! ## Families of eight and of two, written out -/

omit [FloatOps F] in
theorem eight (f : Fin 8 → sProp (MT nD τ sig Unit (Elt F) ℕ UU ℕ)) :
    bigSep Finset.univ f = iprop(f 0 ∗ f 1 ∗ f 2 ∗ f 3 ∗ f 4 ∗ f 5 ∗ f 6 ∗ f 7) := by
  rw [bigSep_univ_eq_bigSepL [0, 1, 2, 3, 4, 5, 6, 7] (by decide) (by decide)]
  simp only [bigSepL_cons_cons, bigSepL_singleton]
  rfl

omit [FloatOps F] in
theorem two (f : Fin 2 → sProp (MT nD τ sig Unit (Elt F) ℕ UU ℕ)) : bigSep Finset.univ f = iprop(f 0 ∗ f 1) := by
  rw [bigSep_univ_eq_bigSepL [0, 1] (by decide) (by decide)]
  simp only [bigSepL_cons_cons, bigSepL_singleton]
  rfl

/-! ## Cutting and joining at any contents -/

section Held
variable (d : Dev nD) {sp : Space} {s : Shape} {e : EltTy} (M : Memref sig .tc sp s e)
variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)
include hd hcov

/-- A buffer at some contents is its parts at some contents, -/
theorem held_cut : Held (F := F) d M ⊢ bigSep Finset.univ fun t => Held d (M.slice (r t) (hr t)) := by
  unfold Held
  iintro ⟨%X, H⟩
  iapply (show owns (d : Thread nD τ) M fullShare X ⊢ bigSep Finset.univ fun t =>
      iprop(∃ Y, owns (d : Thread nD τ) (M.slice (r t) (hr t)) fullShare Y) from
    (owns_rects (d : Thread nD τ) M fullShare r hr hd hcov X).trans (bigSep_mono fun t _ => by show (_ : sProp 𝕄) ⊢ _; iintro H; iexists _; iexact H))
  iexact H

/-- and back. -/
theorem held_join : (bigSep Finset.univ fun t => Held (F := F) d (M.slice (r t) (hr t))) ⊢ Held d M := by
  unfold Held
  refine (bigSep_exists_pi Finset.univ (fun t X => owns (d : Thread nD τ) (M.slice (r t) (hr t)) fullShare X)).trans ?_
  iintro ⟨%Xs, H⟩
  have hg (t : T) : (fun j => Rect.glue r hcov Xs ((r t).emb j)) = Xs t := funext fun y => Rect.glue_emb r hcov hd Xs t y
  iexists (Rect.glue r hcov Xs)
  iapply (owns_of_rects (d : Thread nD τ) M fullShare r hr hd hcov (Rect.glue r hcov Xs))
  simp only [hg]
  iexact H

end Held

/-- A slice at some contents is the slice seen through another shape at some contents. -/
theorem held_squeeze (d : Dev nD) {sp : Space} {s s' : Shape} {e : EltTy} (M : Memref sig .tc sp s e) (r : Rect s) (hr : ∀ a, r.stride a = 1)
    (hq : r.shape.Squeezes s') : Held (F := F) d ((M.slice r hr).squeeze s' hq) = Held d (M.slice r hr) := by
  unfold Held owns
  have hs := set_squeeze M r hr hq
  refine Entails.antisymm ?_ ?_
  · show (_ : sProp 𝕄) ⊢ _
    iintro ⟨%Y, %f, -, H⟩
    iexists _; iexists f
    isplitr; · ipureintro; rfl
    rw [show (M.slice r hr).view.set = ((M.slice r hr).squeeze s' hq).view.set from hs.symm]
    iexact H
  · show (_ : sProp 𝕄) ⊢ _
    iintro ⟨%Y, %f, -, H⟩
    iexists _; iexists f
    isplitr; · ipureintro; rfl
    rw [show ((M.slice r hr).squeeze s' hq).view.set = (M.slice r hr).view.set from hs]
    iexact H

/-- A whole buffer at some contents. -/
def Any (d : Dev nD) (b : Ref sig .tc) : sProp 𝕄 := iprop(∃ f : Buf (Elt F) ((d : Thread nD τ).loc b), ((d : Thread nD τ).loc b) ↦{fullShare} f)

theorem any_held (d : Dev nD) (b : Ref sig .tc) : Any (F := F) d b = Held d (Memref.whole b) := by
  unfold Any Held
  simp only [owns_whole]

/-- The landing buffer is its eight row chunks; -/
theorem comm_cut (d : Dev nD) : Any (F := F) d cc0_scratch0 ⊢ bigSep Finset.univ fun i : Fin 8 => Held (F := F) d (commP i) := by
  rw [any_held]; exact held_cut d commW rowR (fun _ _ => rfl) rows_disj rows_cover
theorem comm_join (d : Dev nD) : (bigSep Finset.univ fun i : Fin 8 => Held (F := F) d (commP i)) ⊢ Any d cc0_scratch0 := by
  rw [any_held]; exact held_join d commW rowR (fun _ _ => rfl) rows_disj rows_cover

section Slots
variable (d : Dev nD) {e : EltTy} (W : Memref sig .tc .vmem S2x1024x1024 e)
/-- a two-slot buffer is its two slots; -/
theorem slots_cut : Held (F := F) d W ⊢ iprop(
    Held d ((W.slice (slotR 0) (fun _ => rfl)).squeeze S1024x1024 squeezes_S1x1024x1024_S1024x1024)
    ∗ Held d ((W.slice (slotR 1) (fun _ => rfl)).squeeze S1024x1024 squeezes_S1x1024x1024_S1024x1024)) := by
  rw [held_squeeze, held_squeeze]
  exact (held_cut d W slotR (fun _ _ => rfl) slots_disj slots_cover).trans (Entails.of_eq (two _))
theorem slots_join : iprop(
    Held d ((W.slice (slotR 0) (fun _ => rfl)).squeeze S1024x1024 squeezes_S1x1024x1024_S1024x1024)
    ∗ Held d ((W.slice (slotR 1) (fun _ => rfl)).squeeze S1024x1024 squeezes_S1x1024x1024_S1024x1024)) ⊢ Held (F := F) d W := by
  rw [held_squeeze, held_squeeze]
  exact (Entails.of_eq (two (fun t : Fin 2 => Held (F := F) d (W.slice (slotR t) (fun _ => rfl)))).symm).trans
    (held_join d W slotR (fun _ _ => rfl) slots_disj slots_cover)
end Slots

/-! ## The result -/

/-- The result on device `d`: its eight chunks, glued. -/
def outV (d : Dev nD) : Vec F S8192x1024 .f32 := Rect.glue rowR rows_cover (fun i => res m d i)

/-- Row chunk `i` of the result. -/
theorem outV_emb (d : Dev nD) (i : Fin 8) (j : S1024x1024.Idx) : outV m d ((rowR i).emb j) = res m d i j :=
  Rect.glue_emb rowR rows_cover rows_disj (fun i => res m d i) i j

/-- the result buffer is its eight row chunks, -/
theorem out_cut (d : Dev nD) : Any (F := F) d main_v1 ⊢ bigSep Finset.univ fun i : Fin 8 => Held (F := F) d (outP i) := by
  rw [any_held]; exact held_cut d outW rowR (fun _ _ => rfl) rows_disj rows_cover
/-- and its eight finished chunks are the result. -/
theorem out_join (d : Dev nD) : (bigSep Finset.univ fun i : Fin 8 => owns (d : Thread nD τ) (outP i) fullShare (res m d i))
    ⊢ (((d : Thread nD τ).loc main_v1) ↦{fullShare} (outV m d) : sProp 𝕄) := by
  rw [← owns_whole]
  refine BIBase.Entails.trans ?_ (owns_of_rects (d : Thread nD τ) outW fullShare rowR (fun _ _ => rfl) rows_disj rows_cover (outV m d))
  refine bigSep_mono fun i _ => ?_
  rw [show res m d i = fun j => outV m d ((rowR i).emb j) from funext fun j => (outV_emb m d i j).symm]
  exact BI.Entails.refl _

/-! ## The operand -/

/-- The three shares of the operand: one for each staging slot, one for the own half. -/
abbrev sh0 : PosShare TreeShare := fullShare.left
abbrev sh1 : PosShare TreeShare := fullShare.right.left
abbrev sh2 : PosShare TreeShare := fullShare.right.right

theorem x_cut (d : Dev nD) : xPts m d fullShare ⊢ iprop(xPts m d sh0 ∗ xPts m d sh1 ∗ xPts m d sh2) := by
  unfold xPts
  iintro H
  ihave H := (pointsTo_share (PosShare.mem_left_op_right fullShare)).1 $$ H
  icases H with ⟨H0, H⟩
  isplitl [H0]; · iexact H0
  iapply (pointsTo_share (PosShare.mem_left_op_right fullShare.right)).1; iexact H
theorem x_join (d : Dev nD) : iprop(xPts m d sh0 ∗ xPts m d sh1 ∗ xPts m d sh2) ⊢ xPts m d fullShare := by
  unfold xPts
  iintro ⟨H0, H⟩
  iapply (pointsTo_share (PosShare.mem_left_op_right fullShare)).2
  isplitl [H0]; · iexact H0
  iapply (pointsTo_share (PosShare.mem_left_op_right fullShare.right)).2; iexact H

end Cert.KProof
-- ==== Proof.Body.lean ====
/-
The kernel body on one device, executed symbolically from what the launch hands the device to its result.
-/
module

public import proofs.«01_k».proof.Proof.Pieces
public import proofs.«01_k».proof.Proof.Gen.KernelIdeal.Points

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 17 → ℕ) (d : Dev nD)

/-- Starting the copy of chunk `i` of the half the peer keeps to a staging slot. -/
theorem stage {α : Type} {Q : α → sProp (MT nD τ sig Unit (Elt F) ℕ UU ℕ)} (i : Fin 8) (b : Fin 2) {sh : PosShare TreeShare}
    {off : Fin 3 → ℕ} {ho : ∀ a, off a + S1x1024x1024.size a ≤ S1x8192x2048.size a} (hoff : off = offP d i)
    {hsrc : (xPiece off ho).view.WordExact} {hdst : (sfS b).view.WordExact}
    {hsem : DmaTarget.Typed (nD := nD) (τ := τ) (p := .tc) .hbm (.dma (stQ b)) (.here (sfS b))}
    {k : PUnit → Prog (TpuEff nD τ sig (Elt F) Λ₀ .tc) α} :
    Idle m d (sfS b) (stQ b) sh ⊢ iprop((Busy m d (sfS b) (stQ b) sh (give m d i) -∗ WP d (k ⟨⟩) Q)
      -∗ WP d (.op (.enqueueDma (xPiece off ho) (.here (sfS b)) (.dma (stQ b)) hsrc hdst hsem) k) Q) := by
  subst hoff
  exact fetch m d (credit_sf b)

/-- A buffer the operand's pieces are copied to, put together; -/
theorem idle {sp : Space} (M : Memref sig .tc sp S1024x1024 .f32) (q : DmaSem sig) {sh : PosShare TreeShare} :
    Held d M ⊢ iprop(xPts m d sh -∗ semVal ((d : Thread nD τ), .dma q) 0 -∗ Idle m d M q sh) := by
  unfold Idle
  iintro HM Hx Hv
  isplitl [HM]; · iexact HM
  isplitl [Hx] <;> iassumption
/-- a free result slot; -/
theorem free (b : Fin 2) : Held (F := F) d (oS b) ⊢ iprop(semVal ((d : Thread nD τ), .dma (outQ b)) 0 -∗ Free d b) := by
  unfold Free
  iintro Ho Hv
  isplitl [Ho] <;> iassumption
/-- what a chunk is shipped with. -/
theorem fare (i : Fin 8) : (dutyTok EX (sendCell d i) 0 () : sProp 𝕄) ⊢ iprop(dutyTok EX (recvCell (peer d) i) 0 ()
    -∗ Held (F := F) (peer d) (commP i) -∗ Fare d i) := by
  unfold Fare
  iintro Hs Hr Hp
  isplitl [Hs]; · iexact Hs
  isplitl [Hr] <;> iassumption
/-- The landing buffer cut into its chunks, -/
theorem landing_cut : Held (F := F) d commW ⊢ bigSep Finset.univ fun i : Fin 8 => Held (F := F) d (commP i) :=
  (Entails.of_eq (any_held d cc0_scratch0).symm).trans (comm_cut d)
/-- and back; -/
theorem landing_join : iprop(Held (F := F) d (commP 0) ∗ Held (F := F) d (commP 1) ∗ Held (F := F) d (commP 2) ∗ Held (F := F) d (commP 3)
    ∗ Held (F := F) d (commP 4) ∗ Held (F := F) d (commP 5) ∗ Held (F := F) d (commP 6) ∗ Held (F := F) d (commP 7)) ⊢ Held (F := F) d commW :=
  (Entails.of_eq (eight (fun i => Held (F := F) d (commP i))).symm).trans ((comm_join d).trans (Entails.of_eq (any_held d cc0_scratch0)))
/-- the result buffer cut into its chunks, -/
theorem result_cut : Held (F := F) d outW ⊢ iprop(Held (F := F) d (outP 0) ∗ Held (F := F) d (outP 1) ∗ Held (F := F) d (outP 2)
    ∗ Held (F := F) d (outP 3) ∗ Held (F := F) d (outP 4) ∗ Held (F := F) d (outP 5) ∗ Held (F := F) d (outP 6) ∗ Held (F := F) d (outP 7)) :=
  (Entails.of_eq (any_held d main_v1).symm).trans ((out_cut d).trans (Entails.of_eq (eight _)))
/-- and the finished chunks put together. -/
theorem result_join : iprop(owns (d : Thread nD τ) (outP 0) fullShare (res m d 0) ∗ owns (d : Thread nD τ) (outP 1) fullShare (res m d 1)
    ∗ owns (d : Thread nD τ) (outP 2) fullShare (res m d 2) ∗ owns (d : Thread nD τ) (outP 3) fullShare (res m d 3)
    ∗ owns (d : Thread nD τ) (outP 4) fullShare (res m d 4) ∗ owns (d : Thread nD τ) (outP 5) fullShare (res m d 5)
    ∗ owns (d : Thread nD τ) (outP 6) fullShare (res m d 6) ∗ owns (d : Thread nD τ) (outP 7) fullShare (res m d 7))
    ⊢ (((d : Thread nD τ).loc main_v1) ↦{fullShare} (outV m d) : sProp (MT nD τ sig Unit (Elt F) ℕ UU ℕ)) :=
  (Entails.of_eq (eight (fun i => owns (d : Thread nD τ) (outP i) fullShare (res m d i))).symm).trans (out_join m d)

/-! ## Before and after -/

/-- Chunk `i`'s places in the exchange: its send and receive cells in round 0, and the credit to wait for its arrival. -/
def Seat (i : Fin 8) : sProp 𝕄 :=
  iprop(atPos EX (sendCell d i) 0 ∅ 0 ∗ atPos EX (recvCell d i) 0 ∅ 0 ∗ cred (tallyAt (recvCell d i) () NB))
/-- Chunk `i`'s duties: the own send and the peer's receive. -/
def Toll (i : Fin 8) : sProp 𝕄 := iprop(dutyTok EX (sendCell d i) 0 () ∗ dutyTok EX (recvCell (peer d) i) 0 ())
/-- The semaphores of local copies at zero. -/
def Quiet : sProp 𝕄 :=
  iprop(semVal ((d : Thread nD τ), .dma (stQ 0)) 0 ∗ semVal ((d : Thread nD τ), .dma (stQ 1)) 0 ∗ semVal ((d : Thread nD τ), .dma aQ) 0
    ∗ semVal ((d : Thread nD τ), .dma (outQ 0)) 0 ∗ semVal ((d : Thread nD τ), .dma (outQ 1)) 0)
/-- The kernel's working buffers. -/
def Work : sProp 𝕄 :=
  iprop(Any (F := F) d cc0_scratch0 ∗ Any (F := F) d cc0_scratch1 ∗ Any (F := F) d cc0_scratch2 ∗ Any (F := F) d cc0_scratch3 ∗ Any (F := F) d cc0_scratch4)

def bodyPre : sProp 𝕄 :=
  iprop(env m K ∗ (bigSep Finset.univ fun i => Seat (F := F) d i) ∗ (bigSep Finset.univ fun i => Toll (F := F) d i)
    ∗ atPos EX (barCell d) 0 ∅ 0 ∗ dutyTok EX (barCell (peer d)) 0 () ∗ cred (tallyAt (barCell d) () 1)
    ∗ Quiet (F := F) d ∗ Work (F := F) d ∗ xPts m d fullShare ∗ Any (F := F) d main_v1 ∗ Ow (F := F) d (O₀ d))

def bodyPost : sProp 𝕄 :=
  iprop((bigSep Finset.univ fun i : Fin 8 => (semVal (sendCell d i) 0 : sProp 𝕄)) ∗ (bigSep Finset.univ fun i : Fin 8 => (semVal (recvCell d i) 0 : sProp 𝕄)) ∗ semVal (barCell d) 0
    ∗ Quiet (F := F) d ∗ Work (F := F) d ∗ xPts m d fullShare ∗ (((d : Thread nD τ).loc main_v1) ↦{fullShare} (outV m d)) ∗ Ow (F := F) d 0)

set_option maxHeartbeats 0 in
set_option maxRecDepth 4000 in
/-- The body, stretch by stretch in program order, from `bodyPre` to `bodyPost`. -/
theorem sound_body (Kt : PUnit → sProp (MT nD τ sig Unit (Elt F) ℕ UU ℕ)) :
    iprop(bodyPre m K d ∗ (bodyPost m d -∗ Kt ⟨⟩)) ⊢ WP d (bodyAt0 t0_0) Kt := by
  unfold bodyAt0
  simp only [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel k0_part16_skel
    k0_part17_skel k0_part18_skel k0_part19_skel k0_part20_skel k0_part21_skel
  simp only [semSignalWord, semWaitWord, Prog.lift, Prog.bind_op, Prog.bind_ret, Prog.pure_eq_ret, wp_deviceId]
  unfold bodyPre Quiet Work
  simp only [any_held, eight]
  unfold Seat Toll
  iintro ⟨⟨#HE, ⟨⟨Hs0, Hr0, Hk0⟩, ⟨Hs1, Hr1, Hk1⟩, ⟨Hs2, Hr2, Hk2⟩, ⟨Hs3, Hr3, Hk3⟩, ⟨Hs4, Hr4, Hk4⟩, ⟨Hs5, Hr5, Hk5⟩, ⟨Hs6, Hr6, Hk6⟩, ⟨Hs7, Hr7, Hk7⟩⟩,
      ⟨⟨Ht0, Hu0⟩, ⟨Ht1, Hu1⟩, ⟨Ht2, Hu2⟩, ⟨Ht3, Hu3⟩, ⟨Ht4, Hu4⟩, ⟨Ht5, Hu5⟩, ⟨Ht6, Hu6⟩, ⟨Ht7, Hu7⟩⟩,
      Hat, Htok, Hcb, ⟨Hq0, Hq1, Hqa, Hqo0, Hqo1⟩, ⟨Hcomm, Hsf, Hsb, Ha, Ho⟩, Hx, Hout, HO⟩, Hk⟩
  ihave ⟨Hx0, Hx1, Hx2⟩ := (x_cut m d) $$ Hx
  ihave ⟨Hsf0, Hsf1⟩ := (slots_cut d sfW) $$ Hsf
  ihave ⟨Hsb0, Hsb1⟩ := (slots_cut d sbW) $$ Hsb
  ihave ⟨Ho0, Ho1⟩ := (slots_cut d oW) $$ Ho
  iapply (stage m d 0 0 (k0_off1_eq d) (sh := sh0)) $$ [Hsf0 Hx0 Hq0]
  · iapply (idle m d (sfS 0) (stQ 0)) $$ Hsf0 Hx0 Hq0
  iintro Hst0
  iapply (stage m d 1 1 (k0_off2_eq d) (sh := sh1)) $$ [Hsf1 Hx1 Hq1]
  · iapply (idle m d (sfS 1) (stQ 1)) $$ Hsf1 Hx1 Hq1
  iintro Hst1
  ihave Hcomm := (landing_cut d) $$ Hcomm
  iapply (barrier_signal m K d (Fin.ext (k0_dev1_eq d))) $$ HE Htok Hcomm HO
  iintro HO
  iapply (barrier_wait m K d) $$ HE Hat Hcb HO
  rw [eight]
  iintro ⟨⟨Hp0, Hp1, Hp2, Hp3, Hp4, Hp5, Hp6, Hp7⟩, Hz, HO⟩
  iapply (ship m K d 0 0 rfl 0 rfl (Fin.ext (k0_dev2_eq d))) $$ HE Hst0 Hsb0 [Ht0 Hu0 Hp0] HO
  · iapply (fare d 0) $$ Ht0 Hu0 Hp0
  iintro ⟨Hst0, Hw0, HO⟩
  iapply (ship m K d 1 1 rfl 1 rfl (Fin.ext (k0_dev3_eq d))) $$ HE Hst1 Hsb1 [Ht1 Hu1 Hp1] HO
  · iapply (fare d 1) $$ Ht1 Hu1 Hp1
  iintro ⟨Hst1, Hw1, HO⟩
  ihave Hout := (result_cut d) $$ Hout
  icases Hout with ⟨Hy0, Hy1, Hy2, Hy3, Hy4, Hy5, Hy6, Hy7⟩
  ihave Ho0 := (free d 0) $$ Ho0 Hqo0
  ihave Ho1 := (free d 1) $$ Ho1 Hqo1
  ihave Ha := (idle m d aW aQ) $$ Ha Hx2 Hqa
  iapply (gather m K d 0 2 (by decide) (k0_off3_eq d)) $$ HE Ha Hr0 Hk0 HO
  iintro ⟨Ha, Hx2, Hqa, Hl0, Hr0, HO⟩
  iapply (emit m d 0 0) $$ Ha Hl0 Ho0 Hy0
  iintro ⟨Ha, Hl0, Ho0⟩
  ihave Ha := (idle m d aW aQ) $$ Ha Hx2 Hqa
  iapply (sent_wait m K d 0 0 rfl 2) $$ HE Hs0 Hw0 HO
  iintro ⟨Hsb0, Hs0, HO⟩
  iapply (stage m d 2 0 (k0_off4_eq d)) $$ Hst0
  iintro Hst0
  iapply (ship m K d 2 0 rfl 2 rfl (Fin.ext (k0_dev4_eq d))) $$ HE Hst0 Hsb0 [Ht2 Hu2 Hp2] HO
  · iapply (fare d 2) $$ Ht2 Hu2 Hp2
  iintro ⟨Hst0, Hw2, HO⟩
  iapply (gather m K d 1 3 (by decide) (k0_off5_eq d)) $$ HE Ha Hr1 Hk1 HO
  iintro ⟨Ha, Hx2, Hqa, Hl1, Hr1, HO⟩
  iapply (emit m d 1 1) $$ Ha Hl1 Ho1 Hy1
  iintro ⟨Ha, Hl1, Ho1⟩
  ihave Ha := (idle m d aW aQ) $$ Ha Hx2 Hqa
  iapply (sent_wait m K d 1 1 rfl 3) $$ HE Hs1 Hw1 HO
  iintro ⟨Hsb1, Hs1, HO⟩
  iapply (stage m d 3 1 (k0_off6_eq d)) $$ Hst1
  iintro Hst1
  iapply (ship m K d 3 1 rfl 3 rfl (Fin.ext (k0_dev5_eq d))) $$ HE Hst1 Hsb1 [Ht3 Hu3 Hp3] HO
  · iapply (fare d 3) $$ Ht3 Hu3 Hp3
  iintro ⟨Hst1, Hw3, HO⟩
  iapply (gather m K d 2 4 (by decide) (k0_off7_eq d)) $$ HE Ha Hr2 Hk2 HO
  iintro ⟨Ha, Hx2, Hqa, Hl2, Hr2, HO⟩
  iapply (retire m K d 0 0 4) $$ HE Ho0 HO
  iintro ⟨Hy0, Ho0, HO⟩
  iapply (emit m d 2 0) $$ Ha Hl2 Ho0 Hy2
  iintro ⟨Ha, Hl2, Ho0⟩
  ihave Ha := (idle m d aW aQ) $$ Ha Hx2 Hqa
  iapply (sent_wait m K d 2 0 rfl 4) $$ HE Hs2 Hw2 HO
  iintro ⟨Hsb0, Hs2, HO⟩
  iapply (stage m d 4 0 (k0_off8_eq d)) $$ Hst0
  iintro Hst0
  iapply (ship m K d 4 0 rfl 4 rfl (Fin.ext (k0_dev6_eq d))) $$ HE Hst0 Hsb0 [Ht4 Hu4 Hp4] HO
  · iapply (fare d 4) $$ Ht4 Hu4 Hp4
  iintro ⟨Hst0, Hw4, HO⟩
  iapply (gather m K d 3 5 (by decide) (k0_off9_eq d)) $$ HE Ha Hr3 Hk3 HO
  iintro ⟨Ha, Hx2, Hqa, Hl3, Hr3, HO⟩
  iapply (retire m K d 1 1 5) $$ HE Ho1 HO
  iintro ⟨Hy1, Ho1, HO⟩
  iapply (emit m d 3 1) $$ Ha Hl3 Ho1 Hy3
  iintro ⟨Ha, Hl3, Ho1⟩
  ihave Ha := (idle m d aW aQ) $$ Ha Hx2 Hqa
  iapply (sent_wait m K d 3 1 rfl 5) $$ HE Hs3 Hw3 HO
  iintro ⟨Hsb1, Hs3, HO⟩
  iapply (stage m d 5 1 (k0_off10_eq d)) $$ Hst1
  iintro Hst1
  iapply (ship m K d 5 1 rfl 5 rfl (Fin.ext (k0_dev7_eq d))) $$ HE Hst1 Hsb1 [Ht5 Hu5 Hp5] HO
  · iapply (fare d 5) $$ Ht5 Hu5 Hp5
  iintro ⟨Hst1, Hw5, HO⟩
  iapply (gather m K d 4 6 (by decide) (k0_off11_eq d)) $$ HE Ha Hr4 Hk4 HO
  iintro ⟨Ha, Hx2, Hqa, Hl4, Hr4, HO⟩
  iapply (retire m K d 2 0 6) $$ HE Ho0 HO
  iintro ⟨Hy2, Ho0, HO⟩
  iapply (emit m d 4 0) $$ Ha Hl4 Ho0 Hy4
  iintro ⟨Ha, Hl4, Ho0⟩
  ihave Ha := (idle m d aW aQ) $$ Ha Hx2 Hqa
  iapply (sent_wait m K d 4 0 rfl 6) $$ HE Hs4 Hw4 HO
  iintro ⟨Hsb0, Hs4, HO⟩
  iapply (stage m d 6 0 (k0_off12_eq d)) $$ Hst0
  iintro Hst0
  iapply (ship m K d 6 0 rfl 6 rfl (Fin.ext (k0_dev8_eq d))) $$ HE Hst0 Hsb0 [Ht6 Hu6 Hp6] HO
  · iapply (fare d 6) $$ Ht6 Hu6 Hp6
  iintro ⟨Hst0, Hw6, HO⟩
  iapply (gather m K d 5 7 (by decide) (k0_off13_eq d)) $$ HE Ha Hr5 Hk5 HO
  iintro ⟨Ha, Hx2, Hqa, Hl5, Hr5, HO⟩
  iapply (retire m K d 3 1 7) $$ HE Ho1 HO
  iintro ⟨Hy3, Ho1, HO⟩
  iapply (emit m d 5 1) $$ Ha Hl5 Ho1 Hy5
  iintro ⟨Ha, Hl5, Ho1⟩
  ihave Ha := (idle m d aW aQ) $$ Ha Hx2 Hqa
  iapply (sent_wait m K d 5 1 rfl 7) $$ HE Hs5 Hw5 HO
  iintro ⟨Hsb1, Hs5, HO⟩
  iapply (stage m d 7 1 (k0_off14_eq d)) $$ Hst1
  iintro Hst1
  iapply (ship m K d 7 1 rfl 7 rfl (Fin.ext (k0_dev9_eq d))) $$ HE Hst1 Hsb1 [Ht7 Hu7 Hp7] HO
  · iapply (fare d 7) $$ Ht7 Hu7 Hp7
  iintro ⟨Hst1, Hw7, HO⟩
  iapply (gather m K d 6 8 (by decide) (k0_off15_eq d)) $$ HE Ha Hr6 Hk6 HO
  iintro ⟨Ha, Hx2, Hqa, Hl6, Hr6, HO⟩
  iapply (retire m K d 4 0 8) $$ HE Ho0 HO
  iintro ⟨Hy4, Ho0, HO⟩
  iapply (emit m d 6 0) $$ Ha Hl6 Ho0 Hy6
  iintro ⟨Ha, Hl6, Ho0⟩
  ihave Ha := (idle m d aW aQ) $$ Ha Hx2 Hqa
  iapply (gather m K d 7 8 (by decide) (k0_off16_eq d)) $$ HE Ha Hr7 Hk7 HO
  iintro ⟨Ha, Hx2, Hqa, Hl7, Hr7, HO⟩
  iapply (retire m K d 5 1 8) $$ HE Ho1 HO
  iintro ⟨Hy5, Ho1, HO⟩
  iapply (emit m d 7 1) $$ Ha Hl7 Ho1 Hy7
  iintro ⟨Ha, Hl7, Ho1⟩
  ihave Ha := (idle m d aW aQ) $$ Ha Hx2 Hqa
  iapply (sent_wait m K d 6 0 rfl 8) $$ HE Hs6 Hw6 HO
  iintro ⟨Hsb0, Hs6, HO⟩
  iapply (sent_wait m K d 7 1 rfl 8) $$ HE Hs7 Hw7 HO
  iintro ⟨Hsb1, Hs7, HO⟩
  iapply (retire m K d 6 0 8) $$ HE Ho0 HO
  iintro ⟨Hy6, Ho0, HO⟩
  iapply (retire m K d 7 1 8) $$ HE Ho1 HO
  iintro ⟨Hy7, Ho1, HO⟩
  unfold WP
  rw [wp_ret]
  imodintro
  unfold Idle Free
  icases Hst0 with ⟨Hsf0, Hx0, Hq0⟩
  icases Hst1 with ⟨Hsf1, Hx1, Hq1⟩
  icases Ha with ⟨Ha, Hx2, Hqa⟩
  icases Ho0 with ⟨Ho0, Hqo0⟩
  icases Ho1 with ⟨Ho1, Hqo1⟩
  iapply Hk
  unfold bodyPost Quiet Work
  simp only [any_held, eight]
  ihave Hcomm := (landing_join d) $$ [Hl0 Hl1 Hl2 Hl3 Hl4 Hl5 Hl6 Hl7]
  · iframe
  ihave Hout := (result_join m d) $$ [Hy0 Hy1 Hy2 Hy3 Hy4 Hy5 Hy6 Hy7]
  · iframe
  ihave Hx := (x_join m d) $$ [Hx0 Hx1 Hx2]
  · iframe
  ihave Hsf := (slots_join d sfW) $$ [Hsf0 Hsf1]
  · iframe
  ihave Hsb := (slots_join d sbW) $$ [Hsb0 Hsb1]
  · iframe
  ihave Ho := (slots_join d oW) $$ [Ho0 Ho1]
  · iframe
  rw [debt_eight]
  iframe

end Cert.KProof
-- ==== Proof.Launch.lean ====
/-
The launch of the exchange kernel on the sixteen devices: the cells allocated, tokens and credits dealt to
whoever spends them, and the run, with what every final state holds.
-/
module

public import proofs.«01_k».proof.Proof.Body
public import Idealize.ShloMosaic.Lib.Pipeline.Quiescent

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Families over a device's cells -/

omit [FloatOps F] in
/-- A family over `a + b + c` is three families. -/
theorem threefold {a b c : ℕ} (Φ : Fin (a + b + c) → sProp (MT nD τ sig Unit (Elt F) ℕ UU ℕ)) :
    bigSep Finset.univ Φ = iprop(((bigSep Finset.univ fun i : Fin a => Φ (Fin.castAdd c (Fin.castAdd b i)))
      ∗ (bigSep Finset.univ fun i : Fin b => Φ (Fin.castAdd c (Fin.natAdd a i)))) ∗ (bigSep Finset.univ fun i : Fin c => Φ (Fin.natAdd (a + b) i))) := by
  rw [bigSep_univ_equiv (finSumFinEquiv (m := a + b) (n := c)), bigSep_univ_sum,
    bigSep_univ_equiv (finSumFinEquiv (m := a) (n := b)), bigSep_univ_sum]
  rfl

omit [FloatOps F] in
/-- A family over a device's cells: the send cells, the receive cells, the barrier. -/
theorem by_cell (Φ : GSem nD τ sig → sProp (MT nD τ sig Unit (Elt F) ℕ UU ℕ)) (d : Dev nD) :
    (bigSep Finset.univ fun k : Fin 17 => Φ (kcell (d, k)))
      = iprop(((bigSep Finset.univ fun i : Fin 8 => Φ (sendCell d i)) ∗ (bigSep Finset.univ fun i : Fin 8 => Φ (recvCell d i))) ∗ Φ (barCell d)) := by
  rw [threefold (a := 8) (b := 8) (c := 1) (fun k => Φ (kcell (d, k))),
    bigSep_univ_eq_bigSepL [(0 : Fin 1)] (by decide) (by decide), bigSepL_singleton]
  have hs (i : Fin 8) : Φ (kcell (d, Fin.castAdd 1 (Fin.castAdd 8 i))) = Φ (sendCell d i) := congrArg Φ (kcell_send d i)
  have hr (i : Fin 8) : Φ (kcell (d, Fin.castAdd 1 (Fin.natAdd 8 i))) = Φ (recvCell d i) := congrArg Φ (kcell_recv d i)
  have hb : Φ (kcell (d, Fin.natAdd (8 + 8) (0 : Fin 1))) = Φ (barCell d) := congrArg Φ (kcell_bar d)
  simp only [hs, hr, hb]

/-! ## The kernel's own semaphores -/

/-- The kernel's own semaphores: all its DMA semaphores. -/
abbrev osem : Fin 21 → SemLoc sig := fun k => .dma k

theorem ownSemFacts : Pipeline.OwnSemFacts cfg0.spec osem := by decide

abbrev Own (d : Dev nD) : sProp 𝕄 := Pipeline.ownSems0 (Ix := Unit) (Name := ℕ) (U := UU) (Lvl := ℕ) (Val := Elt F) (τ := τ) osem d

omit [FloatOps F] in
/-- At zero, they are the send and receive cells and the semaphores of local copies. -/
theorem own_eq (d : Dev nD) : Own (F := F) d
    = iprop(((bigSep Finset.univ fun i : Fin 8 => (semVal (sendCell d i) 0 : sProp 𝕄)) ∗ (bigSep Finset.univ fun i : Fin 8 => (semVal (recvCell d i) 0 : sProp 𝕄)))
        ∗ Quiet (F := F) d) := by
  unfold Own Pipeline.ownSems0 Quiet
  rw [threefold (a := 8) (b := 8) (c := 5) (fun k : Fin 21 => (semVal ((d : Thread nD τ), osem k) 0 : sProp 𝕄)),
    bigSep_univ_eq_bigSepL [(0 : Fin 5), 1, 2, 3, 4] (by decide) (by decide)]
  simp only [bigSepL_cons_cons, bigSepL_singleton]
  rfl

omit [FloatOps F] in
/-- The one unscoped semaphore is the barrier. -/
theorem bar_eq (d : Dev nD) : (unscopedSems0 d : sProp 𝕄) = semVal (barCell d) 0 := by
  unfold unscopedSems0; rw [bigSep_eq_bigSepL_of_eq [SemLoc.reg barS] (by decide) (by decide)]; rfl

omit [FloatOps F] in
/-- Together: every cell of the exchange at zero, and the semaphores of local copies. -/
theorem zeros (d : Dev nD) : iprop(Own (F := F) d ∗ unscopedSems0 d)
    ⊢ iprop((bigSep Finset.univ fun k : Fin 17 => (semVal (kcell (d, k)) 0 : sProp 𝕄)) ∗ Quiet (F := F) d) := by
  rw [own_eq, bar_eq, by_cell (fun g => (semVal g 0 : sProp 𝕄)) d]
  iintro ⟨⟨Hx, Hq⟩, Hb⟩
  isplitr [Hq]
  · isplitl [Hx] <;> iassumption
  · iexact Hq

/-! ## What the launch starts the exchange's ghost state with -/

theorem csem_injective : Function.Injective csem := by decide

theorem kcell_injective : Function.Injective (kcell : Dev nD × Fin 17 → GSem nD τ sig) := by
  rintro ⟨d, k⟩ ⟨d', k'⟩ h
  exact Prod.ext (congrArg (fun g : GSem nD τ sig => g.1.1) h) (csem_injective (congrArg Prod.snd h))

/-- The exchange's cells on all devices, and one duty token for each. -/
def xCells : Finset (GSem nD τ sig) := Finset.univ.map ⟨kcell, kcell_injective⟩
def xToks : Finset (GSem nD τ sig × ℕ × Unit) :=
  xCells.map ⟨fun g => (g, 0, ()), fun _ _ h => congrArg Prod.fst h⟩

/-- The launch's ghost element: the pipeline's, the exchange's, no local copy under way. -/
def u₀ : UU :=
  (initOf (Pipeline.cells cfgs cellOf_inj) (Pipeline.launchToks cfgs cellOf_inj), (initOf xCells xToks, 1))

omit [FloatOps F] in
theorem by_device (Φ : GSem nD τ sig → sProp (MT nD τ sig Unit (Elt F) ℕ UU ℕ)) :
    bigSep xCells Φ = bigSep Finset.univ fun d : Dev nD => bigSep Finset.univ fun k : Fin 17 => Φ (kcell (d, k)) := by
  unfold xCells
  rw [BI.bigSep_map, bigSep_univ_prod]
  rfl

/-- What each device's share of it is: its cells' states, its place in each, that each is at round 0, its cells' duty tokens. -/
def G (d : Dev nD) : sProp 𝕄 :=
  iprop((bigSep Finset.univ fun k : Fin 17 => (roundState EX (sched m) (kcell (d, k)) 0 : sProp 𝕄))
    ∗ (bigSep Finset.univ fun k : Fin 17 => (reached EX (kcell (d, k)) 0 : sProp 𝕄))
    ∗ (bigSep Finset.univ fun k : Fin 17 => (atPos EX (kcell (d, k)) 0 ∅ 0 : sProp 𝕄))
    ∗ (bigSep Finset.univ fun k : Fin 17 => (dutyTok EX (kcell (d, k)) 0 () : sProp 𝕄)))

/-- The launch element deals every device its share. -/
theorem deal : BI.own (EX (F := F) (initOf xCells xToks)) ⊢ (|==> bigSep Finset.univ (G m) : sProp 𝕄) := by
  have hT : bigSep xToks (fun x => (dutyTok EX x.1 x.2.1 x.2.2 : sProp 𝕄)) = bigSep xCells fun g => (dutyTok EX g 0 () : sProp 𝕄) := by
    unfold xToks; rw [BI.bigSep_map]; rfl
  have hG : bigSep Finset.univ (G m) = iprop((bigSep xCells fun g => (roundState EX (sched m) g 0 : sProp 𝕄)) ∗ (bigSep xCells fun g => (reached EX g 0 : sProp 𝕄))
      ∗ (bigSep xCells fun g => (atPos EX g 0 ∅ 0 : sProp 𝕄)) ∗ (bigSep xCells fun g => (dutyTok EX g 0 () : sProp 𝕄))) := by
    unfold G
    simp only [by_device, bigSep_sep']
  rw [hG, ← hT]
  exact Rounds.fund EX (sched m) xCells xToks

/-! ## All cells allocated, all tokens dealt to those who spend them -/

/-- What every device knows: the cells' invariants under the names `K`, and that each cell is at round 0. -/
def Known (K : Dev nD × Fin 17 → ℕ) : sProp 𝕄 :=
  iprop((bigSep Finset.univ fun dk : Dev nD × Fin 17 => (cellInv EX (sched m) (K dk) (kcell dk) : sProp 𝕄))
    ∗ bigSep Finset.univ fun dk : Dev nD × Fin 17 => (reached EX (kcell dk) 0 : sProp 𝕄))

instance Known_persistent (K : Dev nD × Fin 17 → ℕ) : BI.Persistent (Known m K) := by unfold Known; infer_instance

/-- A device's places in its cells. -/
def Places (d : Dev nD) : sProp 𝕄 := bigSep Finset.univ fun k : Fin 17 => (atPos EX (kcell (d, k)) 0 ∅ 0 : sProp 𝕄)
/-- The duty tokens a device spends: its own sends', its peer's receives', its peer's barrier's. -/
def Spends (d : Dev nD) : sProp 𝕄 :=
  iprop(((bigSep Finset.univ fun i : Fin 8 => (dutyTok EX (sendCell d i) 0 () : sProp 𝕄))
    ∗ (bigSep Finset.univ fun i : Fin 8 => (dutyTok EX (recvCell (peer d) i) 0 () : sProp 𝕄))) ∗ dutyTok EX (barCell (peer d)) 0 ())

/-- What a device starts from, but for credits, levels and buffers. -/
def G' (d : Dev nD) : sProp 𝕄 := iprop(∃ K, Known m K ∗ Places (F := F) d ∗ Spends (F := F) d ∗ Quiet (F := F) d)

/-- One device's cells are allocated. -/
theorem open_cells (d : Dev nD) : iprop(Own (F := F) d ∗ unscopedSems0 d ∗ G m d)
    ⊢ |={Set.univ}=> iprop((bigSep Finset.univ fun k : Fin 17 => iprop(∃ κ : ℕ, cellInv EX (sched m) κ (kcell (d, k))))
      ∗ (bigSep Finset.univ fun k : Fin 17 => (reached EX (kcell (d, k)) 0 : sProp 𝕄)) ∗ Places (F := F) d
      ∗ (bigSep Finset.univ fun k : Fin 17 => (dutyTok EX (kcell (d, k)) 0 () : sProp 𝕄)) ∗ Quiet (F := F) d) := by
  unfold G Places
  iintro ⟨Ho, Hu, Hst, Hr, Hat, Htok⟩
  ihave ⟨Hv, Hq⟩ := (zeros (F := F) d) $$ [Ho Hu]
  · isplitl [Ho] <;> iassumption
  imod (show iprop((bigSep Finset.univ fun k : Fin 17 => (semVal (kcell (d, k)) 0 : sProp 𝕄))
        ∗ bigSep Finset.univ fun k : Fin 17 => (roundState EX (sched m) (kcell (d, k)) 0 : sProp 𝕄))
      ⊢ (|={Set.univ}=> bigSep Finset.univ fun k : Fin 17 => iprop(∃ κ : ℕ, cellInv EX (sched m) κ (kcell (d, k))) : sProp 𝕄) from by
        rw [← bigSep_sep']
        exact (bigSep_mono fun k _ => (Rounds.body_intro EX (sched m) (kcell (d, k))).trans inv_alloc).trans (bigSep_fupd _ _)) $$ [Hv Hst] with Hinv
  · isplitl [Hv] <;> iassumption
  imodintro
  iframe

omit [FloatOps F] in
/-- The tokens change hands: receive and barrier tokens go to the peer. -/
theorem hand_over : (bigSep Finset.univ fun d : Dev nD => bigSep Finset.univ fun k : Fin 17 => (dutyTok EX (kcell (d, k)) 0 () : sProp 𝕄))
    ⊢ bigSep Finset.univ fun d : Dev nD => Spends (F := F) d := by
  unfold Spends
  simp only [by_cell (fun g => (dutyTok EX g 0 () : sProp 𝕄))]
  rw [bigSep_sep', bigSep_sep', bigSep_sep', bigSep_sep',
    bigSep_univ_equiv swap (fun d : Dev nD => bigSep Finset.univ fun i : Fin 8 => (dutyTok EX (recvCell d i) 0 () : sProp 𝕄)),
    bigSep_univ_equiv swap (fun d : Dev nD => (dutyTok EX (barCell d) 0 () : sProp 𝕄))]
  exact BI.Entails.refl _

/-- From all devices' cells at once to what each device starts from. -/
theorem settle : (bigSep Finset.univ fun d : Dev nD =>
      iprop((bigSep Finset.univ fun k : Fin 17 => iprop(∃ κ : ℕ, cellInv EX (sched m) κ (kcell (d, k))))
        ∗ (bigSep Finset.univ fun k : Fin 17 => (reached EX (kcell (d, k)) 0 : sProp 𝕄)) ∗ Places (F := F) d
        ∗ (bigSep Finset.univ fun k : Fin 17 => (dutyTok EX (kcell (d, k)) 0 () : sProp 𝕄)) ∗ Quiet (F := F) d))
    ⊢ bigSep Finset.univ (G' m) := by
  rw [bigSep_sep', bigSep_sep', bigSep_sep', bigSep_sep',
    ← bigSep_univ_prod (fun dk : Dev nD × Fin 17 => iprop(∃ κ : ℕ, cellInv EX (sched m) κ (kcell dk))),
    ← bigSep_univ_prod (fun dk : Dev nD × Fin 17 => (reached EX (kcell dk) 0 : sProp 𝕄))]
  iintro ⟨HI, #HR, Hat, Htok, Hq⟩
  ihave HK := (BI.bigSep_exists_pi Finset.univ (fun (dk : Dev nD × Fin 17) (κ : ℕ) => (cellInv EX (sched m) κ (kcell dk) : sProp 𝕄))) $$ HI
  icases HK with ⟨%K, #HI⟩
  ihave Htok := (hand_over (F := F)) $$ Htok
  iapply (show iprop(Known m K ∗ bigSep Finset.univ fun d : Dev nD => iprop(Places (F := F) d ∗ Spends (F := F) d ∗ Quiet (F := F) d)) ⊢ bigSep Finset.univ (G' m) from
    (sep_mono_left (BI.bigSep_of_persistent (Finset.univ : Finset (Dev nD)) (Known m K))).trans (by
      rw [← bigSep_sep']
      refine bigSep_mono fun d _ => ?_
      show (_ : sProp 𝕄) ⊢ _
      unfold G'
      iintro H
      iexists K
      iexact H))
  isplitr
  · unfold Known
    isplitl; · iexact HI
    iexact HR
  · rw [bigSep_sep', bigSep_sep']
    iframe

/-- The launch's one step on all devices' semaphores and shares. -/
theorem glob : (bigSep Finset.univ fun d => iprop(Own (F := F) d ∗ unscopedSems0 d ∗ G m d) : sProp 𝕄)
    ⊢ |={Set.univ}=> bigSep Finset.univ (G' m) :=
  ((bigSep_mono fun d _ => open_cells m d).trans (bigSep_fupd _ _)).trans (BI.fupd_mono (settle m))

/-! ## The credit -/

omit [FloatOps F] in
/-- What the peer owes a device is the credit it waits with: one barrier unit and each chunk's arrival. -/
theorem credit (d : Dev nD) : (Pipeline.launchCred O₀ d : sProp 𝕄)
    ⊢ iprop((bigSep Finset.univ fun i : Fin 8 => (cred (tallyAt (recvCell d i) () NB) : sProp 𝕄)) ∗ cred (tallyAt (barCell d) () 1)) := by
  have h : (O₀ : Dev nD → CellTallies nD τ sig Unit)
      = fun d => (∑ i ∈ (Finset.univ : Finset (Fin 8)), tallyAt (recvCell (peer d) i) () NB) + tallyAt (barCell (peer d)) () 1 := by
    funext d
    unfold O₀ debt
    rw [Finset.filter_true_of_mem fun i _ => Nat.zero_le _]
  rw [h, Pipeline.launchCred_add, Pipeline.launchCred_sum]
  exact BIClass.sep_mono (bigSep_mono fun i _ => Pipeline.launchCred_tallyAt (.dma (recvQ i)) peer peer peer_peer peer_peer () NB d)
    (Pipeline.launchCred_tallyAt (.reg barS) peer peer peer_peer peer_peer () 1 d)

/-! ## The pipeline's data -/

/-- Before the body: what the launch deals a device, -/
def Start (d : Dev nD) : sProp 𝕄 :=
  iprop(∃ K, env m K ∗ (bigSep Finset.univ fun i => Seat (F := F) d i) ∗ (bigSep Finset.univ fun i => Toll (F := F) d i)
    ∗ atPos EX (barCell d) 0 ∅ 0 ∗ dutyTok EX (barCell (peer d)) 0 () ∗ cred (tallyAt (barCell d) () 1)
    ∗ Quiet (F := F) d ∗ xPts m d fullShare ∗ Any (F := F) d main_v1)
def Before (d : Dev nD) : sProp 𝕄 := iprop(Start m d ∗ Work (F := F) d)
/-- and after it: every semaphore at zero, the operand unchanged, the result computed. -/
def After (d : Dev nD) : sProp 𝕄 :=
  iprop((bigSep Finset.univ fun i : Fin 8 => (semVal (sendCell d i) 0 : sProp 𝕄)) ∗ (bigSep Finset.univ fun i : Fin 8 => (semVal (recvCell d i) 0 : sProp 𝕄))
    ∗ semVal (barCell d) 0 ∗ Quiet (F := F) d ∗ Work (F := F) d ∗ xPts m d fullShare ∗ (((d : Thread nD τ).loc main_v1) ↦{fullShare} (outV m d)))

def dats (_ : Fin 1) (d : Dev nD) : Dat τ (Elt F) Unit ℕ UU ℕ cfg0 d where
  A w := w.elim0
  after w := w.elim0
  Φ t := match t with
    | ⟨0, _⟩ => Before m d
    | ⟨_ + 1, _⟩ => After m d
  q _ := fullShare
  owed t := match t with
    | ⟨0, _⟩ => O₀ d
    | ⟨_ + 1, _⟩ => 0

set_option maxRecDepth 8000 in
/-- The library's obligation on the body. -/
theorem body_obligation (d : Dev nD) : BodyObligation (dats (F := F) m 0 d) (defs₀ (F := F)) 𝒱₀ () Set.univ := fun t => by
  rw [show t = t0_0 from fin_N0 t]
  rw [show (Finset.univ : Finset (Fin cfg0.W)) = ∅ from rfl, BI.bigSep_empty, BI.bigSep_empty]
  show iprop(Before m d ∗ Pipeline.owesWithin d (O₀ d) _ ∗ emp) ⊢ WP d (bodyAt0 t0_0)
    (fun _ => iprop(After m d ∗ Pipeline.owesWithin d 0 _ ∗ emp))
  iintro ⟨HB, ⟨%W, -, HO⟩, -⟩
  unfold Before Start
  icases HB with ⟨⟨%K, H1, H2, H3, H4, H5, H6, H7, H8, H9⟩, HW⟩
  iapply (sound_body m K d)
  isplitl
  · unfold bodyPre Ow
    iframe
    iexists W; iexact HO
  · unfold bodyPost Ow After
    iintro ⟨H1, H2, H3, H4, H5, H6, H7, ⟨%W', HO⟩⟩
    isplitl [H1 H2 H3 H4 H5 H6 H7]
    · iframe
    isplitl [HO]
    · iexists W'
      isplitr; · ipureintro; exact fun _ _ => Or.inl trivial
      iexact HO
    iempintro

/-! ## The side conditions -/

theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ |={Set.univ}=> iprop(Start m d ∗ emp) := by
  rw [Pipeline.unscopedRestP_none, unscopedRest0_eq]
  unfold G' Known Places Spends
  rw [by_cell (fun g => (atPos EX g 0 ∅ 0 : sProp 𝕄)) d]
  iintro ⟨⟨Hx, Hout⟩, Hlev, Hcr, -, ⟨%K, ⟨#HI, #HR⟩, ⟨⟨Has, Har⟩, Hab⟩, ⟨⟨Hts, Htr⟩, Htb⟩, Hq⟩⟩
  ihave ⟨Hkr, Hkb⟩ := (credit (F := F) d) $$ Hcr
  imodintro
  isplitl
  swap; · iempintro
  unfold Start Seat Toll
  iexists K
  rw [bigSep_sep', bigSep_sep', bigSep_sep']
  isplitl [Hlev]
  · unfold env Levels
    isplitr; · iexact HI
    isplitr; · iexact HR
    iexact Hlev
  isplitl [Has Har Hkr]; · iframe
  isplitl [Hts Htr]; · iframe
  isplitl [Hab]; · iexact Hab
  isplitl [Htb]; · iexact Htb
  isplitl [Hkb]; · iexact Hkb
  isplitl [Hq]; · iexact Hq
  isplitl [Hx]; · unfold xPts; iexact Hx
  unfold Any
  iexists _; iexact Hout

theorem before_intro (d : Dev nD) :
    iprop(Start m d ∗ Pipeline.prefHeld Pipeline.Prefetch.none d (fun _ => fullShare.right) (fun k => k.elim0) ∗ Pipeline.scopedRest cfg0.spec d)
      ⊢ (dats m 0 d).Φ 0 := by
  rw [show (dats m 0 d).Φ 0 = Before m d from rfl, scopedRest0_eq]
  unfold Before Work Any
  iintro ⟨Hs, -, Hw⟩
  isplitl [Hs] <;> iassumption

/-- What a device keeps past the region: its barrier semaphore at zero, the operand, the result. -/
def Kept (d : Dev nD) : sProp 𝕄 :=
  iprop(unscopedSems0 d ∗ xPts m d fullShare ∗ (((d : Thread nD τ).loc main_v1) ↦{fullShare} (outV m d)))

theorem after_exit (d : Dev nD) :
    (dats m 0 d).Φ (Fin.last cfg0.N) ⊢ iprop(Kept m d ∗ Own (F := F) d ∗ Pipeline.scopedRest cfg0.spec d) := by
  rw [show (dats m 0 d).Φ (Fin.last cfg0.N) = After m d from rfl, scopedRest0_eq, own_eq]
  unfold After Kept Work Any
  rw [bar_eq]
  iintro ⟨H1, H2, H3, H4, H5, H6, H7⟩
  isplitl [H3 H6 H7]; · iframe
  isplitl [H1 H2 H4]; · iframe
  iexact H5

/-! ## The run -/

/-- What every final state holds: operand unchanged and result computed, on every device, every counter at zero. -/
def Final (s : MemSt nD τ sig (Elt F)) : Prop :=
  (∀ d : Dev nD, s.mem ((d : Thread nD τ).loc main_arg0) = x0 m d ∧ s.mem ((d : Thread nD τ).loc main_v1) = outV m d) ∧ s.sem = fun _ => 0

set_option maxRecDepth 8000 in
/-- For any float values, from any memory with zero counters: every weakly fair execution of @main on the sixteen
    devices terminates, and every final state holds `Final`. -/
theorem run_main : θ_run (defs (F := F)) (onTc (τ := τ) (main (F := F))) ⟨m, fun _ => 0, ρ⟩ (fun r => Final m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun d => (body_obligation m d).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne)
    (hwaits := fun d => Pipeline.cellsWaits_intro cfgs (dats m) () 0 d fun w => w.elim0)
    (G := G m) (G' := G' m) (u₀ := u₀)
    (hu₀ := by
      unfold u₀
      iintro Hu
      ihave ⟨HP, HX⟩ := (ownU_pair _ _) $$ Hu
      ihave ⟨HX, -⟩ := (own_pair_emb _ _ _) $$ HX
      imod (deal m) $$ HX with HG
      imodintro
      isplitl [HP] <;> iassumption)
    (hglob := glob m)
    (hA := fun _ w => w.elim0) (hpf := fun _ k => k.elim0)
    (X := Start m) (Y := Kept m) (Z := fun _ => iprop(emp))
    (hX := start_intro m ρ) (hin := before_intro m) (hout := after_exit m)
    (QY := fun d s => (∀ sm : SemLoc sig, sm.isScoped .tc = false → s.sem ((d.tc : Thread nD τ), sm) = 0)
      ∧ s.mem ((d : Thread nD τ).loc main_arg0) = x0 m d ∧ s.mem ((d : Thread nD τ).loc main_v1) = outV m d)
    (hY := fun d s' => by
      unfold Kept xPts
      iintro ⟨⟨Hu, Hx, Ho⟩, -, HSI⟩
      icombine HSI Hx gives %hx
      icombine HSI Ho gives %ho
      ihave %hz := (tcUnscoped_read d s') $$ [Hu HSI]
      · isplitl [Hu] <;> iassumption
      imodintro
      isplitr; · ipureintro; exact ⟨hz, Buf.eq_of_forall_mem_univ hx, Buf.eq_of_forall_mem_univ ho⟩
      iexact HSI)
    (hQ := fun _ h hs => ⟨fun d => (h d).2.2.2, sem_eq_zero hs fun d => (h d).2.2.1⟩)

end Cert.KProof
-- ==== Proof.Value.lean ====
/-
The value: over the extended reals, on every device the result is that device's block of the reference's sum.
-/
module

public import proofs.«01_k».proof.Proof.Launch
public import proofs.«01_k».proof.Proof.Gen.ReferenceIdeal.Run
public import Idealize.ShloMosaic.Lib.Layout
public import Idealize.ShloMosaic.Lib.IdealHost
public import Idealize.ShloMosaic.Lib.Pipeline.Value
public import Idealize.ShloMosaic.Lib.Pointwise.Reduce

@[expose] public section

noncomputable section

namespace Cert.KProof

open Cert.KernelIdeal Cert.KernelIdeal.Gen

open Idealize.ShloMosaic
open Idealize.ShloMosaic.TcCoe
open Idealize.SL.Sem

/-! ## Reading a piece of the operand -/

section Pieces
variable {F : FTy → Type} [FloatOps F]

/-- Element `j` of the operand's piece at offsets `off` is the operand's element `off` further along. -/
theorem piece_at (off : Fin 3 → ℕ) (h : ∀ a, off a + S1x1024x1024.size a ≤ S1x8192x2048.size a) (f : S1x8192x2048.Idx → Elt F .f32)
    (j : S1024x1024.Idx) (k : S1x8192x2048.Idx) (h0 : (k 0).val = off 0) (h1 : (k 1).val = off 1 + (j 0).val)
    (h2 : (k 2).val = off 2 + (j 1).val) : (xPiece off h).view.read (Elt F) f j = f k := by
  rw [show (xPiece off h).view.read (Elt F) f j = shapeCast S1024x1024 (xW.view.readAt (Elt F)
      (Rect.unit (s := S1x8192x2048) off S1x1024x1024.size h).toLoadRect f) (show (⟨3, ![1, 1024, 1024]⟩ : Shape).ShapeCasts S1024x1024 by decide) j from rfl]
  refine (shapeCast_dropUnit_apply (![1024, 1024]) _ _ j).trans ?_
  refine congrArg f (funext fun a => Fin.ext ?_)
  match a with
  | ⟨0, _⟩ => show off 0 + 1 * 0 = (k 0).val; omega
  | ⟨1, _⟩ => show off 1 + 1 * (j 0).val = (k 1).val; omega
  | ⟨2, _⟩ => show off 2 + 1 * (j 1).val = (k 2).val; omega

end Pieces

/-! ## The operand as blocks of the whole array -/

/-- The whole operand and the whole result. -/
abbrev SW : Shape := ⟨3, ![2, 8192, 2048]⟩
abbrev SR : Shape := ⟨2, ![8192, 2048]⟩

/-- The y coordinate of a device. -/
abbrev yOf (d : Dev nD) : ℕ := (d.val / 4) % 2

theorem half_le (d : Dev nD) : 1024 * yOf d ≤ 1024 := by revert d; decide

variable (m : (ℓ : Loc nD τ sig) → Buf (Elt Ideal) ℓ) (W : SW.Idx → Elt Ideal .f32)

/-- Every device holds the block of the whole operand its y coordinate names. -/
abbrev Laid : Prop := ∀ d : Dev nD, x0 m d = Layout.blockN ⟨3, ![1, 8192, 2048]⟩ SW (Layout.meshBlock [2, 2, 4] ![[1], [], []] d) W

variable {m W}

/-- An element of a device's block, in the whole operand. -/
theorem laid_at (hx : Laid m W) (d : Dev nD) (k : S1x8192x2048.Idx) (w : SW.Idx) (h0 : (w 0).val = yOf d)
    (h1 : (w 1).val = (k 1).val) (h2 : (w 2).val = (k 2).val) : x0 m d k = W w := by
  rw [hx d]
  refine congrArg W (funext fun a => Fin.ext ?_)
  have hk : (k 0).val < 1 := (k 0).isLt
  match a with
  | ⟨0, _⟩ =>
    refine Eq.trans ?_ h0.symm
    show ((d.val / 4) % 2 * 1 + 0) * 1 + (k 0).val = (d.val / 4) % 2
    omega
  | ⟨1, _⟩ =>
    refine Eq.trans ?_ h1.symm
    show 0 * 8192 + (k 1).val = _
    omega
  | ⟨2, _⟩ =>
    refine Eq.trans ?_ h2.symm
    show 0 * 2048 + (k 2).val = _
    omega

/-- Where element `j` of row chunk `i` of the columns from `o` on lies on row `y` of the whole operand. -/
def spot (y : Fin 2) (o : ℕ) (ho : o ≤ 1024) (i : Fin 8) (j : S1024x1024.Idx) : SW.Idx :=
  ix3 y ⟨1024 * i.val + (j 0).val, by have := i.isLt; have : (j 0).val < 1024 := (j 0).isLt; omega⟩
    ⟨o + (j 1).val, by have : (j 1).val < 1024 := (j 1).isLt; omega⟩

theorem piece_spot (hx : Laid m W) (d : Dev nD) (i : Fin 8) (o : ℕ) (ho : o ≤ 1024) (y : Fin 2) (hy : y.val = yOf d) (j : S1024x1024.Idx)
    (off : Fin 3 → ℕ) (h : ∀ a, off a + S1x1024x1024.size a ≤ S1x8192x2048.size a) (hoff : off = ![0, 1024 * i.val, o]) :
    (xPiece off h).view.read (Elt Ideal) (x0 m d) j = W (spot y o ho i j) := by
  subst hoff
  let k : S1x8192x2048.Idx := ix3 (0 : Fin 1) (spot y o ho i j 1) (spot y o ho i j 2)
  exact (piece_at _ h (x0 m d) j k rfl rfl rfl).trans (laid_at hx d k _ hy rfl rfl)

/-- The peer has the other y coordinate. -/
theorem yOf_peer (d : Dev nD) : yOf (peer d) = 1 - yOf d := by revert d; decide

/-- Over the extended reals a device's chunk is the sum of the two blocks at the device's own columns. -/
theorem res_spot (hx : Laid m W) (d : Dev nD) (i : Fin 8) (j : S1024x1024.Idx) :
    res m d i j = W (spot 0 (1024 * yOf d) (half_le d) i j)
      + W (spot 1 (1024 * yOf d) (half_le d) i j) := by
  have hlt : yOf d < 2 := Nat.mod_lt _ (by decide)
  have hp : yOf (peer d) = 1 - yOf d := yOf_peer d
  have hk (y : Fin 2) (hy : y.val = yOf d) : keep m d i j = W (spot y (1024 * yOf d) (half_le d) i j) :=
    piece_spot hx d i _ _ y hy j _ (offA_inb d i) rfl
  have hg (y : Fin 2) (hy : y.val = yOf (peer d)) : give m (peer d) i j = W (spot y (1024 * yOf d) (half_le d) i j) :=
    piece_spot hx (peer d) i _ _ y hy j _ (offP_inb (peer d) i) (by
      show ![0, 1024 * i.val, 1024 - 1024 * yOf (peer d)] = _
      rw [show 1024 - 1024 * yOf (peer d) = 1024 * yOf d by omega])
  show (keep m d i j + give m (peer d) i j : EReal) = _
  rcases (by omega : yOf d = 0 ∨ yOf d = 1) with h | h
  · rw [hk 0 h.symm, hg 1 (by rw [hp, h]; rfl)]
  · rw [hk 1 h.symm, hg 0 (by rw [hp, h]; rfl)]
    exact add_comm (G := EReal) _ _

/-- The reference's sum over the leading axis, at an index. -/
theorem sum_at (r : SR.Idx) (W : SW.Idx → EReal) :
    (Host.reduceAdd (F := Ideal) (φ := .f32) W (constant Cert.ReferenceIdeal.S_ .f32 0x00000000#32)
      Cert.ReferenceIdeal.Gen.facts.reducesTo_S2x8192x2048_S8192x2048_d0 Cert.ReferenceIdeal.Gen.facts.h_S_ r : EReal)
      = W (ix3 0 (r 0) (r 1)) + W (ix3 1 (r 0) (r 1)) := by
  rw [ValueIdx.hostReduceAdd_apply, Ideal.hostReduceAdd_r3_a0, Fin.sum_univ_two]
  refine (congrArg (· + _) (Ideal.ofBits_zero_f32)).trans (zero_add _)

/-- On every device the result is its block of the reference's sum. -/
theorem outV_block (hx : Laid m W) (d : Dev nD) : outV m d
    = Layout.blockN ⟨2, ![8192, 1024]⟩ SR (Layout.meshBlock [2, 2, 4] ![[], [1]] d)
        (Host.reduceAdd (F := Ideal) (φ := .f32) W (constant Cert.ReferenceIdeal.S_ .f32 0x00000000#32)
          Cert.ReferenceIdeal.Gen.facts.reducesTo_S2x8192x2048_S8192x2048_d0 Cert.ReferenceIdeal.Gen.facts.h_S_) := by
  refine Rect.ext_of_cover rowR rows_cover fun i j => ?_
  rw [outV_emb, res_spot hx, Layout.blockN_apply]
  refine Eq.trans ?_ (sum_at _ W).symm
  have hs (y : Fin 2) (ho) (r : SR.Idx) (h0 : (r 0).val = 1024 * i.val + (j 0).val) (h1 : (r 1).val = 1024 * yOf d + (j 1).val) :
      spot y (1024 * yOf d) ho i j = ix3 y (r 0) (r 1) := by
    funext a
    match a with
    | ⟨0, _⟩ => rfl
    | ⟨1, _⟩ => exact Fin.ext h0.symm
    | ⟨2, _⟩ => exact Fin.ext h1.symm
  have ht : Layout.TilesN ⟨2, ![8192, 1024]⟩ SR fun b => Layout.cutSize [2, 2, 4] ((![[], [1]] : Fin 2 → List ℕ) b) := by decide
  have h0 : ((Layout.TilesN.idx (S := ⟨2, ![8192, 1024]⟩) (T := SR) ht (Layout.meshBlock [2, 2, 4] ![[], [1]] d) ((rowR i).emb j)) 0).val
      = 1024 * i.val + (j 0).val := by
    show 0 * 8192 + (1024 * i.val + 1 * (j 0).val) = _
    omega
  have h1 : ((Layout.TilesN.idx (S := ⟨2, ![8192, 1024]⟩) (T := SR) ht (Layout.meshBlock [2, 2, 4] ![[], [1]] d) ((rowR i).emb j)) 1).val
      = 1024 * yOf d + (j 1).val := by
    show ((d.val / 4) % 2 * 1 + 0) * 1024 + (0 + 1 * (j 1).val) = 1024 * ((d.val / 4) % 2) + (j 1).val
    omega
  rw [hs 0 _ _ h0 h1, hs 1 _ _ h0 h1]
  rfl

end Cert.KProof
-- ==== Proof.lean ====
/-
Everything claimed: the compiled kernel, the kernel over the extended reals and the reference run, leave their operand
unchanged and every semaphore counter at zero; and over the extended reals every device's result is its block of the
reference's. The run is proved once, for any float values (Proof/Launch.lean), the value in Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as it is compiled: at the machine's own floats it runs, the operand ends unchanged, every counter ends at zero. -/
theorem kernel_quiescent : Cert.quiescent_Kernel := fun m g _ =>
  (θ_run Cert.Kernel.defs _ _).mono (fun _ h => ⟨fun c => (h.1 c).1, h.2⟩) (Cert.KProof.run_main (F := Bits) m g)

/-- The same of the kernel over the extended reals. -/
theorem ideal_quiescent : Cert.quiescent_KernelIdeal := fun m g _ =>
  (θ_run Cert.KernelIdeal.defs _ _).mono (fun _ h => ⟨fun c => (h.1 c).1, h.2⟩) (Cert.KProof.run_main (F := Ideal) m g)

/-- The reference runs, its operand ends unchanged, every counter ends at zero. -/
theorem reference_quiescent : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The kernel's result on every device is that device's block of the reference's result. -/
theorem values_agree : Cert.algebraic_KernelIdeal_ReferenceIdeal := fun m g m' g' _ hx =>
  ⟨_, (θ_run Cert.KernelIdeal.defs _ _).mono
      (fun _ h c => ⟨(h.1 c).2.trans (Cert.KProof.outV_block (m := m) (W := m' (((0 : Dev Cert.ReferenceIdeal.nD).tc : Thread Cert.ReferenceIdeal.nD Cert.ReferenceIdeal.τ).loc Cert.ReferenceIdeal.main_arg0)) hx c), (h.1 c).1⟩)
      (Cert.KProof.run_main (F := Ideal) m g),
    (θ_run Cert.ReferenceIdeal.defs _ _).mono (fun _ h => h 0) (Cert.ReferenceIdeal.Value.run m' g')⟩

/-- Everything claimed. -/
theorem claim : Cert.Claim := ⟨Cert.Kernel.Gen.facts, Cert.KernelIdeal.Gen.facts, Cert.ReferenceIdeal.Gen.facts,
  kernel_quiescent, ideal_quiescent, reference_quiescent, trivial, values_agree⟩

end Cert.Proof

end
